-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![4096, 2048]⟩ (Layout.meshBlock [2, 2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .bf16) (main_arg1 : FVec F S2048x2048 .bf16) (main_arg2 : FVec F S2048 .bf16) : IVec S_ 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Pre_finite_x_ReferenceIdeal.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .bf16) (main_arg1 : FVec F S4096x2048 .bf16) (main_arg2 : FVec F S2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S2048x2048 : Shape := ⟨2, ![2048, 2048]⟩
abbrev S2048 : Shape := ⟨1, ![2048]⟩
abbrev S_ : Shape := ⟨0, ![]⟩
abbrev S1 : Shape := ⟨1, ![1]⟩
abbrev S2x2048 : Shape := ⟨2, ![2, 2048]⟩
abbrev S256x2048 : Shape := ⟨2, ![256, 2048]⟩
abbrev S8x2x2048 : Shape := ⟨3, ![8, 2, 2048]⟩
abbrev S8 : Shape := ⟨1, ![8]⟩
abbrev S1x2x2048 : Shape := ⟨3, ![1, 2, 2048]⟩
abbrev S256 : Shape := ⟨1, ![256]⟩
abbrev S256x1 : Shape := ⟨2, ![256, 1]⟩
abbrev S1x2048 : Shape := ⟨2, ![1, 2048]⟩
abbrev S1x1x2048 : Shape := ⟨3, ![1, 1, 2048]⟩

abbrev nBuf : Space → Nat
  | .hbm => 19
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2x2048, .f32⟩
  | .local _ .vmem, ⟨5, _⟩ => ⟨S8x2x2048, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 8
abbrev τ : Topo := Topo.v7x

variable {F : FTy → Type} [FloatOps F]

abbrev grid0 : Pipeline.Grid := ⟨1, ![2], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_5 : BitVec 32 := 0#32
  let v16 : BitVec 1 := Scalar.cmpi .ne v15 c0_i32_5
  v16

def k0_dev1 (d0 : Dev nD) : Nat :=
  let c0_i32_51 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_32 : BitVec 32 := 1#32
  let v74 : BitVec 32 := Scalar.addi v12 c1_i32_32
  let c8_i32 : BitVec 32 := 8#32
  let v75 : BitVec 32 := Scalar.remsi v74 c8_i32
  let c0_i32_34 : BitVec 32 := 0#32
  let v77 : BitVec 1 := Scalar.cmpi .sgt v75 c0_i32_34
  let v78 : BitVec 32 := Scalar.extui v77
  let c0_i32_35 : BitVec 32 := 0#32
  let v79 : BitVec 1 := Scalar.cmpi .slt v75 c0_i32_35
  let v80 : BitVec 32 := Scalar.extui v79
  let v81 : BitVec 32 := Scalar.subi v78 v80
  let c4_i32_33 : BitVec 32 := 4#32
  let c0_i32_36 : BitVec 32 := 0#32
  let v82 : BitVec 1 := Scalar.cmpi .sgt c4_i32_33 c0_i32_36
  let v83 : BitVec 32 := Scalar.extui v82
  let c0_i32_37 : BitVec 32 := 0#32
  let v84 : BitVec 1 := Scalar.cmpi .slt c4_i32_33 c0_i32_37
  let v85 : BitVec 32 := Scalar.extui v84
  let v86 : BitVec 32 := Scalar.subi v83 v85
  let v87 : BitVec 1 := Scalar.cmpi .ne v81 v86
  let v88 : BitVec 32 := Scalar.remsi v75 c4_i32_33
  let c0_i32_38 : BitVec 32 := 0#32
  let v89 : BitVec 1 := Scalar.cmpi .ne v88 c0_i32_38
  let v90 : BitVec 1 := Scalar.andi v87 v89
  let v76 : BitVec 32 := Scalar.divsi v75 c4_i32_33
  let c1_i32_39 : BitVec 32 := 1#32
  let v91 : BitVec 32 := Scalar.subi v76 c1_i32_39
  let v92 : BitVec 32 := Scalar.select v90 v91 v76
  let c4_i32_50 : BitVec 32 := 4#32
  let v112 : BitVec 32 := Scalar.muli v92 c4_i32_50
  let v113 : BitVec 32 := Scalar.addi c0_i32_51 v112
  let c0_i32_41 : BitVec 32 := 0#32
  let v94 : BitVec 1 := Scalar.cmpi .sgt v75 c0_i32_41
  let v95 : BitVec 32 := Scalar.extui v94
  let c0_i32_42 : BitVec 32 := 0#32
  let v96 : BitVec 1 := Scalar.cmpi .slt v75 c0_i32_42
  let v97 : BitVec 32 := Scalar.extui v96
  let v98 : BitVec 32 := Scalar.subi v95 v97
  let c2_i32_40 : BitVec 32 := 2#32
  let c0_i32_43 : BitVec 32 := 0#32
  let v99 : BitVec 1 := Scalar.cmpi .sgt c2_i32_40 c0_i32_43
  let v100 : BitVec 32 := Scalar.extui v99
  let c0_i32_44 : BitVec 32 := 0#32
  let v101 : BitVec 1 := Scalar.cmpi .slt c2_i32_40 c0_i32_44
  let v102 : BitVec 32 := Scalar.extui v101
  let v103 : BitVec 32 := Scalar.subi v100 v102
  let v104 : BitVec 1 := Scalar.cmpi .ne v98 v103
  let v105 : BitVec 32 := Scalar.remsi v75 c2_i32_40
  let c0_i32_45 : BitVec 32 := 0#32
  let v106 : BitVec 1 := Scalar.cmpi .ne v105 c0_i32_45
  let v107 : BitVec 1 := Scalar.andi v104 v106
  let v93 : BitVec 32 := Scalar.divsi v75 c2_i32_40
  let c1_i32_46 : BitVec 32 := 1#32
  let v108 : BitVec 32 := Scalar.subi v93 c1_i32_46
  let v109 : BitVec 32 := Scalar.select v107 v108 v93
  let c2_i32_47 : BitVec 32 := 2#32
  let v110 : BitVec 32 := Scalar.remsi v109 c2_i32_47
  let c2_i32_52 : BitVec 32 := 2#32
  let v114 : BitVec 32 := Scalar.muli v110 c2_i32_52
  let v115 : BitVec 32 := Scalar.addi v113 v114
  let c2_i32_48 : BitVec 32 := 2#32
  let v111 : BitVec 32 := Scalar.remsi v75 c2_i32_48
  let c1_i32_53 : BitVec 32 := 1#32
  let v116 : BitVec 32 := Scalar.muli v111 c1_i32_53
  let v117 : BitVec 32 := Scalar.addi v115 v116
  v117.toNat
def k0_dev2 (d0 : Dev nD) : Nat :=
  let c0_i32_74 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_54 : BitVec 32 := 2#32
  let v118 : BitVec 32 := Scalar.addi v12 c2_i32_54
  let c8_i32_55 : BitVec 32 := 8#32
  let v119 : BitVec 32 := Scalar.remsi v118 c8_i32_55
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c4_i32_56 : BitVec 32 := 4#32
  let c0_i32_59 : BitVec 32 := 0#32
  let v126 : BitVec 1 := Scalar.cmpi .sgt c4_i32_56 c0_i32_59
  let v127 : BitVec 32 := Scalar.extui v126
  let c0_i32_60 : BitVec 32 := 0#32
  let v128 : BitVec 1 := Scalar.cmpi .slt c4_i32_56 c0_i32_60
  let v129 : BitVec 32 := Scalar.extui v128
  let v130 : BitVec 32 := Scalar.subi v127 v129
  let v131 : BitVec 1 := Scalar.cmpi .ne v125 v130
  let v132 : BitVec 32 := Scalar.remsi v119 c4_i32_56
  let c0_i32_61 : BitVec 32 := 0#32
  let v133 : BitVec 1 := Scalar.cmpi .ne v132 c0_i32_61
  let v134 : BitVec 1 := Scalar.andi v131 v133
  let v120 : BitVec 32 := Scalar.divsi v119 c4_i32_56
  let c1_i32_62 : BitVec 32 := 1#32
  let v135 : BitVec 32 := Scalar.subi v120 c1_i32_62
  let v136 : BitVec 32 := Scalar.select v134 v135 v120
  let c4_i32_73 : BitVec 32 := 4#32
  let v156 : BitVec 32 := Scalar.muli v136 c4_i32_73
  let v157 : BitVec 32 := Scalar.addi c0_i32_74 v156
  let c0_i32_64 : BitVec 32 := 0#32
  let v138 : BitVec 1 := Scalar.cmpi .sgt v119 c0_i32_64
  let v139 : BitVec 32 := Scalar.extui v138
  let c0_i32_65 : BitVec 32 := 0#32
  let v140 : BitVec 1 := Scalar.cmpi .slt v119 c0_i32_65
  let v141 : BitVec 32 := Scalar.extui v140
  let v142 : BitVec 32 := Scalar.subi v139 v141
  let c2_i32_63 : BitVec 32 := 2#32
  let c0_i32_66 : BitVec 32 := 0#32
  let v143 : BitVec 1 := Scalar.cmpi .sgt c2_i32_63 c0_i32_66
  let v144 : BitVec 32 := Scalar.extui v143
  let c0_i32_67 : BitVec 32 := 0#32
  let v145 : BitVec 1 := Scalar.cmpi .slt c2_i32_63 c0_i32_67
  let v146 : BitVec 32 := Scalar.extui v145
  let v147 : BitVec 32 := Scalar.subi v144 v146
  let v148 : BitVec 1 := Scalar.cmpi .ne v142 v147
  let v149 : BitVec 32 := Scalar.remsi v119 c2_i32_63
  let c0_i32_68 : BitVec 32 := 0#32
  let v150 : BitVec 1 := Scalar.cmpi .ne v149 c0_i32_68
  let v151 : BitVec 1 := Scalar.andi v148 v150
  let v137 : BitVec 32 := Scalar.divsi v119 c2_i32_63
  let c1_i32_69 : BitVec 32 := 1#32
  let v152 : BitVec 32 := Scalar.subi v137 c1_i32_69
  let v153 : BitVec 32 := Scalar.select v151 v152 v137
  let c2_i32_70 : BitVec 32 := 2#32
  let v154 : BitVec 32 := Scalar.remsi v153 c2_i32_70
  let c2_i32_75 : BitVec 32 := 2#32
  let v158 : BitVec 32 := Scalar.muli v154 c2_i32_75
  let v159 : BitVec 32 := Scalar.addi v157 v158
  let c2_i32_71 : BitVec 32 := 2#32
  let v155 : BitVec 32 := Scalar.remsi v119 c2_i32_71
  let c1_i32_76 : BitVec 32 := 1#32
  let v160 : BitVec 32 := Scalar.muli v155 c1_i32_76
  let v161 : BitVec 32 := Scalar.addi v159 v160
  v161.toNat
def k0_dev3 (d0 : Dev nD) : Nat :=
  let c0_i32_96 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32 : BitVec 32 := 3#32
  let v162 : BitVec 32 := Scalar.addi v12 c3_i32
  let c8_i32_77 : BitVec 32 := 8#32
  let v163 : BitVec 32 := Scalar.remsi v162 c8_i32_77
  let c0_i32_79 : BitVec 32 := 0#32
  let v165 : BitVec 1 := Scalar.cmpi .sgt v163 c0_i32_79
  let v166 : BitVec 32 := Scalar.extui v165
  let c0_i32_80 : BitVec 32 := 0#32
  let v167 : BitVec 1 := Scalar.cmpi .slt v163 c0_i32_80
  let v168 : BitVec 32 := Scalar.extui v167
  let v169 : BitVec 32 := Scalar.subi v166 v168
  let c4_i32_78 : BitVec 32 := 4#32
  let c0_i32_81 : BitVec 32 := 0#32
  let v170 : BitVec 1 := Scalar.cmpi .sgt c4_i32_78 c0_i32_81
  let v171 : BitVec 32 := Scalar.extui v170
  let c0_i32_82 : BitVec 32 := 0#32
  let v172 : BitVec 1 := Scalar.cmpi .slt c4_i32_78 c0_i32_82
  let v173 : BitVec 32 := Scalar.extui v172
  let v174 : BitVec 32 := Scalar.subi v171 v173
  let v175 : BitVec 1 := Scalar.cmpi .ne v169 v174
  let v176 : BitVec 32 := Scalar.remsi v163 c4_i32_78
  let c0_i32_83 : BitVec 32 := 0#32
  let v177 : BitVec 1 := Scalar.cmpi .ne v176 c0_i32_83
  let v178 : BitVec 1 := Scalar.andi v175 v177
  let v164 : BitVec 32 := Scalar.divsi v163 c4_i32_78
  let c1_i32_84 : BitVec 32 := 1#32
  let v179 : BitVec 32 := Scalar.subi v164 c1_i32_84
  let v180 : BitVec 32 := Scalar.select v178 v179 v164
  let c4_i32_95 : BitVec 32 := 4#32
  let v200 : BitVec 32 := Scalar.muli v180 c4_i32_95
  let v201 : BitVec 32 := Scalar.addi c0_i32_96 v200
  let c0_i32_86 : BitVec 32 := 0#32
  let v182 : BitVec 1 := Scalar.cmpi .sgt v163 c0_i32_86
  let v183 : BitVec 32 := Scalar.extui v182
  let c0_i32_87 : BitVec 32 := 0#32
  let v184 : BitVec 1 := Scalar.cmpi .slt v163 c0_i32_87
  let v185 : BitVec 32 := Scalar.extui v184
  let v186 : BitVec 32 := Scalar.subi v183 v185
  let c2_i32_85 : BitVec 32 := 2#32
  let c0_i32_88 : BitVec 32 := 0#32
  let v187 : BitVec 1 := Scalar.cmpi .sgt c2_i32_85 c0_i32_88
  let v188 : BitVec 32 := Scalar.extui v187
  let c0_i32_89 : BitVec 32 := 0#32
  let v189 : BitVec 1 := Scalar.cmpi .slt c2_i32_85 c0_i32_89
  let v190 : BitVec 32 := Scalar.extui v189
  let v191 : BitVec 32 := Scalar.subi v188 v190
  let v192 : BitVec 1 := Scalar.cmpi .ne v186 v191
  let v193 : BitVec 32 := Scalar.remsi v163 c2_i32_85
  let c0_i32_90 : BitVec 32 := 0#32
  let v194 : BitVec 1 := Scalar.cmpi .ne v193 c0_i32_90
  let v195 : BitVec 1 := Scalar.andi v192 v194
  let v181 : BitVec 32 := Scalar.divsi v163 c2_i32_85
  let c1_i32_91 : BitVec 32 := 1#32
  let v196 : BitVec 32 := Scalar.subi v181 c1_i32_91
  let v197 : BitVec 32 := Scalar.select v195 v196 v181
  let c2_i32_92 : BitVec 32 := 2#32
  let v198 : BitVec 32 := Scalar.remsi v197 c2_i32_92
  let c2_i32_97 : BitVec 32 := 2#32
  let v202 : BitVec 32 := Scalar.muli v198 c2_i32_97
  let v203 : BitVec 32 := Scalar.addi v201 v202
  let c2_i32_93 : BitVec 32 := 2#32
  let v199 : BitVec 32 := Scalar.remsi v163 c2_i32_93
  let c1_i32_98 : BitVec 32 := 1#32
  let v204 : BitVec 32 := Scalar.muli v199 c1_i32_98
  let v205 : BitVec 32 := Scalar.addi v203 v204
  v205.toNat
def k0_dev4 (d0 : Dev nD) : Nat :=
  let c0_i32_119 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_99 : BitVec 32 := 4#32
  let v206 : BitVec 32 := Scalar.addi v12 c4_i32_99
  let c8_i32_100 : BitVec 32 := 8#32
  let v207 : BitVec 32 := Scalar.remsi v206 c8_i32_100
  let c0_i32_102 : BitVec 32 := 0#32
  let v209 : BitVec 1 := Scalar.cmpi .sgt v207 c0_i32_102
  let v210 : BitVec 32 := Scalar.extui v209
  let c0_i32_103 : BitVec 32 := 0#32
  let v211 : BitVec 1 := Scalar.cmpi .slt v207 c0_i32_103
  let v212 : BitVec 32 := Scalar.extui v211
  let v213 : BitVec 32 := Scalar.subi v210 v212
  let c4_i32_101 : BitVec 32 := 4#32
  let c0_i32_104 : BitVec 32 := 0#32
  let v214 : BitVec 1 := Scalar.cmpi .sgt c4_i32_101 c0_i32_104
  let v215 : BitVec 32 := Scalar.extui v214
  let c0_i32_105 : BitVec 32 := 0#32
  let v216 : BitVec 1 := Scalar.cmpi .slt c4_i32_101 c0_i32_105
  let v217 : BitVec 32 := Scalar.extui v216
  let v218 : BitVec 32 := Scalar.subi v215 v217
  let v219 : BitVec 1 := Scalar.cmpi .ne v213 v218
  let v220 : BitVec 32 := Scalar.remsi v207 c4_i32_101
  let c0_i32_106 : BitVec 32 := 0#32
  let v221 : BitVec 1 := Scalar.cmpi .ne v220 c0_i32_106
  let v222 : BitVec 1 := Scalar.andi v219 v221
  let v208 : BitVec 32 := Scalar.divsi v207 c4_i32_101
  let c1_i32_107 : BitVec 32 := 1#32
  let v223 : BitVec 32 := Scalar.subi v208 c1_i32_107
  let v224 : BitVec 32 := Scalar.select v222 v223 v208
  let c4_i32_118 : BitVec 32 := 4#32
  let v244 : BitVec 32 := Scalar.muli v224 c4_i32_118
  let v245 : BitVec 32 := Scalar.addi c0_i32_119 v244
  let c0_i32_109 : BitVec 32 := 0#32
  let v226 : BitVec 1 := Scalar.cmpi .sgt v207 c0_i32_109
  let v227 : BitVec 32 := Scalar.extui v226
  let c0_i32_110 : BitVec 32 := 0#32
  let v228 : BitVec 1 := Scalar.cmpi .slt v207 c0_i32_110
  let v229 : BitVec 32 := Scalar.extui v228
  let v230 : BitVec 32 := Scalar.subi v227 v229
  let c2_i32_108 : BitVec 32 := 2#32
  let c0_i32_111 : BitVec 32 := 0#32
  let v231 : BitVec 1 := Scalar.cmpi .sgt c2_i32_108 c0_i32_111
  let v232 : BitVec 32 := Scalar.extui v231
  let c0_i32_112 : BitVec 32 := 0#32
  let v233 : BitVec 1 := Scalar.cmpi .slt c2_i32_108 c0_i32_112
  let v234 : BitVec 32 := Scalar.extui v233
  let v235 : BitVec 32 := Scalar.subi v232 v234
  let v236 : BitVec 1 := Scalar.cmpi .ne v230 v235
  let v237 : BitVec 32 := Scalar.remsi v207 c2_i32_108
  let c0_i32_113 : BitVec 32 := 0#32
  let v238 : BitVec 1 := Scalar.cmpi .ne v237 c0_i32_113
  let v239 : BitVec 1 := Scalar.andi v236 v238
  let v225 : BitVec 32 := Scalar.divsi v207 c2_i32_108
  let c1_i32_114 : BitVec 32 := 1#32
  let v240 : BitVec 32 := Scalar.subi v225 c1_i32_114
  let v241 : BitVec 32 := Scalar.select v239 v240 v225
  let c2_i32_115 : BitVec 32 := 2#32
  let v242 : BitVec 32 := Scalar.remsi v241 c2_i32_115
  let c2_i32_120 : BitVec 32 := 2#32
  let v246 : BitVec 32 := Scalar.muli v242 c2_i32_120
  let v247 : BitVec 32 := Scalar.addi v245 v246
  let c2_i32_116 : BitVec 32 := 2#32
  let v243 : BitVec 32 := Scalar.remsi v207 c2_i32_116
  let c1_i32_121 : BitVec 32 := 1#32
  let v248 : BitVec 32 := Scalar.muli v243 c1_i32_121
  let v249 : BitVec 32 := Scalar.addi v247 v248
  v249.toNat
def k0_dev5 (d0 : Dev nD) : Nat :=
  let c0_i32_141 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32 : BitVec 32 := 5#32
  let v250 : BitVec 32 := Scalar.addi v12 c5_i32
  let c8_i32_122 : BitVec 32 := 8#32
  let v251 : BitVec 32 := Scalar.remsi v250 c8_i32_122
  let c0_i32_124 : BitVec 32 := 0#32
  let v253 : BitVec 1 := Scalar.cmpi .sgt v251 c0_i32_124
  let v254 : BitVec 32 := Scalar.extui v253
  let c0_i32_125 : BitVec 32 := 0#32
  let v255 : BitVec 1 := Scalar.cmpi .slt v251 c0_i32_125
  let v256 : BitVec 32 := Scalar.extui v255
  let v257 : BitVec 32 := Scalar.subi v254 v256
  let c4_i32_123 : BitVec 32 := 4#32
  let c0_i32_126 : BitVec 32 := 0#32
  let v258 : BitVec 1 := Scalar.cmpi .sgt c4_i32_123 c0_i32_126
  let v259 : BitVec 32 := Scalar.extui v258
  let c0_i32_127 : BitVec 32 := 0#32
  let v260 : BitVec 1 := Scalar.cmpi .slt c4_i32_123 c0_i32_127
  let v261 : BitVec 32 := Scalar.extui v260
  let v262 : BitVec 32 := Scalar.subi v259 v261
  let v263 : BitVec 1 := Scalar.cmpi .ne v257 v262
  let v264 : BitVec 32 := Scalar.remsi v251 c4_i32_123
  let c0_i32_128 : BitVec 32 := 0#32
  let v265 : BitVec 1 := Scalar.cmpi .ne v264 c0_i32_128
  let v266 : BitVec 1 := Scalar.andi v263 v265
  let v252 : BitVec 32 := Scalar.divsi v251 c4_i32_123
  let c1_i32_129 : BitVec 32 := 1#32
  let v267 : BitVec 32 := Scalar.subi v252 c1_i32_129
  let v268 : BitVec 32 := Scalar.select v266 v267 v252
  let c4_i32_140 : BitVec 32 := 4#32
  let v288 : BitVec 32 := Scalar.muli v268 c4_i32_140
  let v289 : BitVec 32 := Scalar.addi c0_i32_141 v288
  let c0_i32_131 : BitVec 32 := 0#32
  let v270 : BitVec 1 := Scalar.cmpi .sgt v251 c0_i32_131
  let v271 : BitVec 32 := Scalar.extui v270
  let c0_i32_132 : BitVec 32 := 0#32
  let v272 : BitVec 1 := Scalar.cmpi .slt v251 c0_i32_132
  let v273 : BitVec 32 := Scalar.extui v272
  let v274 : BitVec 32 := Scalar.subi v271 v273
  let c2_i32_130 : BitVec 32 := 2#32
  let c0_i32_133 : BitVec 32 := 0#32
  let v275 : BitVec 1 := Scalar.cmpi .sgt c2_i32_130 c0_i32_133
  let v276 : BitVec 32 := Scalar.extui v275
  let c0_i32_134 : BitVec 32 := 0#32
  let v277 : BitVec 1 := Scalar.cmpi .slt c2_i32_130 c0_i32_134
  let v278 : BitVec 32 := Scalar.extui v277
  let v279 : BitVec 32 := Scalar.subi v276 v278
  let v280 : BitVec 1 := Scalar.cmpi .ne v274 v279
  let v281 : BitVec 32 := Scalar.remsi v251 c2_i32_130
  let c0_i32_135 : BitVec 32 := 0#32
  let v282 : BitVec 1 := Scalar.cmpi .ne v281 c0_i32_135
  let v283 : BitVec 1 := Scalar.andi v280 v282
  let v269 : BitVec 32 := Scalar.divsi v251 c2_i32_130
  let c1_i32_136 : BitVec 32 := 1#32
  let v284 : BitVec 32 := Scalar.subi v269 c1_i32_136
  let v285 : BitVec 32 := Scalar.select v283 v284 v269
  let c2_i32_137 : BitVec 32 := 2#32
  let v286 : BitVec 32 := Scalar.remsi v285 c2_i32_137
  let c2_i32_142 : BitVec 32 := 2#32
  let v290 : BitVec 32 := Scalar.muli v286 c2_i32_142
  let v291 : BitVec 32 := Scalar.addi v289 v290
  let c2_i32_138 : BitVec 32 := 2#32
  let v287 : BitVec 32 := Scalar.remsi v251 c2_i32_138
  let c1_i32_143 : BitVec 32 := 1#32
  let v292 : BitVec 32 := Scalar.muli v287 c1_i32_143
  let v293 : BitVec 32 := Scalar.addi v291 v292
  v293.toNat
def k0_dev6 (d0 : Dev nD) : Nat :=
  let c0_i32_163 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32 : BitVec 32 := 6#32
  let v294 : BitVec 32 := Scalar.addi v12 c6_i32
  let c8_i32_144 : BitVec 32 := 8#32
  let v295 : BitVec 32 := Scalar.remsi v294 c8_i32_144
  let c0_i32_146 : BitVec 32 := 0#32
  let v297 : BitVec 1 := Scalar.cmpi .sgt v295 c0_i32_146
  let v298 : BitVec 32 := Scalar.extui v297
  let c0_i32_147 : BitVec 32 := 0#32
  let v299 : BitVec 1 := Scalar.cmpi .slt v295 c0_i32_147
  let v300 : BitVec 32 := Scalar.extui v299
  let v301 : BitVec 32 := Scalar.subi v298 v300
  let c4_i32_145 : BitVec 32 := 4#32
  let c0_i32_148 : BitVec 32 := 0#32
  let v302 : BitVec 1 := Scalar.cmpi .sgt c4_i32_145 c0_i32_148
  let v303 : BitVec 32 := Scalar.extui v302
  let c0_i32_149 : BitVec 32 := 0#32
  let v304 : BitVec 1 := Scalar.cmpi .slt c4_i32_145 c0_i32_149
  let v305 : BitVec 32 := Scalar.extui v304
  let v306 : BitVec 32 := Scalar.subi v303 v305
  let v307 : BitVec 1 := Scalar.cmpi .ne v301 v306
  let v308 : BitVec 32 := Scalar.remsi v295 c4_i32_145
  let c0_i32_150 : BitVec 32 := 0#32
  let v309 : BitVec 1 := Scalar.cmpi .ne v308 c0_i32_150
  let v310 : BitVec 1 := Scalar.andi v307 v309
  let v296 : BitVec 32 := Scalar.divsi v295 c4_i32_145
  let c1_i32_151 : BitVec 32 := 1#32
  let v311 : BitVec 32 := Scalar.subi v296 c1_i32_151
  let v312 : BitVec 32 := Scalar.select v310 v311 v296
  let c4_i32_162 : BitVec 32 := 4#32
  let v332 : BitVec 32 := Scalar.muli v312 c4_i32_162
  let v333 : BitVec 32 := Scalar.addi c0_i32_163 v332
  let c0_i32_153 : BitVec 32 := 0#32
  let v314 : BitVec 1 := Scalar.cmpi .sgt v295 c0_i32_153
  let v315 : BitVec 32 := Scalar.extui v314
  let c0_i32_154 : BitVec 32 := 0#32
  let v316 : BitVec 1 := Scalar.cmpi .slt v295 c0_i32_154
  let v317 : BitVec 32 := Scalar.extui v316
  let v318 : BitVec 32 := Scalar.subi v315 v317
  let c2_i32_152 : BitVec 32 := 2#32
  let c0_i32_155 : BitVec 32 := 0#32
  let v319 : BitVec 1 := Scalar.cmpi .sgt c2_i32_152 c0_i32_155
  let v320 : BitVec 32 := Scalar.extui v319
  let c0_i32_156 : BitVec 32 := 0#32
  let v321 : BitVec 1 := Scalar.cmpi .slt c2_i32_152 c0_i32_156
  let v322 : BitVec 32 := Scalar.extui v321
  let v323 : BitVec 32 := Scalar.subi v320 v322
  let v324 : BitVec 1 := Scalar.cmpi .ne v318 v323
  let v325 : BitVec 32 := Scalar.remsi v295 c2_i32_152
  let c0_i32_157 : BitVec 32 := 0#32
  let v326 : BitVec 1 := Scalar.cmpi .ne v325 c0_i32_157
  let v327 : BitVec 1 := Scalar.andi v324 v326
  let v313 : BitVec 32 := Scalar.divsi v295 c2_i32_152
  let c1_i32_158 : BitVec 32 := 1#32
  let v328 : BitVec 32 := Scalar.subi v313 c1_i32_158
  let v329 : BitVec 32 := Scalar.select v327 v328 v313
  let c2_i32_159 : BitVec 32 := 2#32
  let v330 : BitVec 32 := Scalar.remsi v329 c2_i32_159
  let c2_i32_164 : BitVec 32 := 2#32
  let v334 : BitVec 32 := Scalar.muli v330 c2_i32_164
  let v335 : BitVec 32 := Scalar.addi v333 v334
  let c2_i32_160 : BitVec 32 := 2#32
  let v331 : BitVec 32 := Scalar.remsi v295 c2_i32_160
  let c1_i32_165 : BitVec 32 := 1#32
  let v336 : BitVec 32 := Scalar.muli v331 c1_i32_165
  let v337 : BitVec 32 := Scalar.addi v335 v336
  v337.toNat
def k0_dev7 (d0 : Dev nD) : Nat :=
  let c0_i32_185 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32 : BitVec 32 := 7#32
  let v338 : BitVec 32 := Scalar.addi v12 c7_i32
  let c8_i32_166 : BitVec 32 := 8#32
  let v339 : BitVec 32 := Scalar.remsi v338 c8_i32_166
  let c0_i32_168 : BitVec 32 := 0#32
  let v341 : BitVec 1 := Scalar.cmpi .sgt v339 c0_i32_168
  let v342 : BitVec 32 := Scalar.extui v341
  let c0_i32_169 : BitVec 32 := 0#32
  let v343 : BitVec 1 := Scalar.cmpi .slt v339 c0_i32_169
  let v344 : BitVec 32 := Scalar.extui v343
  let v345 : BitVec 32 := Scalar.subi v342 v344
  let c4_i32_167 : BitVec 32 := 4#32
  let c0_i32_170 : BitVec 32 := 0#32
  let v346 : BitVec 1 := Scalar.cmpi .sgt c4_i32_167 c0_i32_170
  let v347 : BitVec 32 := Scalar.extui v346
  let c0_i32_171 : BitVec 32 := 0#32
  let v348 : BitVec 1 := Scalar.cmpi .slt c4_i32_167 c0_i32_171
  let v349 : BitVec 32 := Scalar.extui v348
  let v350 : BitVec 32 := Scalar.subi v347 v349
  let v351 : BitVec 1 := Scalar.cmpi .ne v345 v350
  let v352 : BitVec 32 := Scalar.remsi v339 c4_i32_167
  let c0_i32_172 : BitVec 32 := 0#32
  let v353 : BitVec 1 := Scalar.cmpi .ne v352 c0_i32_172
  let v354 : BitVec 1 := Scalar.andi v351 v353
  let v340 : BitVec 32 := Scalar.divsi v339 c4_i32_167
  let c1_i32_173 : BitVec 32 := 1#32
  let v355 : BitVec 32 := Scalar.subi v340 c1_i32_173
  let v356 : BitVec 32 := Scalar.select v354 v355 v340
  let c4_i32_184 : BitVec 32 := 4#32
  let v376 : BitVec 32 := Scalar.muli v356 c4_i32_184
  let v377 : BitVec 32 := Scalar.addi c0_i32_185 v376
  let c0_i32_175 : BitVec 32 := 0#32
  let v358 : BitVec 1 := Scalar.cmpi .sgt v339 c0_i32_175
  let v359 : BitVec 32 := Scalar.extui v358
  let c0_i32_176 : BitVec 32 := 0#32
  let v360 : BitVec 1 := Scalar.cmpi .slt v339 c0_i32_176
  let v361 : BitVec 32 := Scalar.extui v360
  let v362 : BitVec 32 := Scalar.subi v359 v361
  let c2_i32_174 : BitVec 32 := 2#32
  let c0_i32_177 : BitVec 32 := 0#32
  let v363 : BitVec 1 := Scalar.cmpi .sgt c2_i32_174 c0_i32_177
  let v364 : BitVec 32 := Scalar.extui v363
  let c0_i32_178 : BitVec 32 := 0#32
  let v365 : BitVec 1 := Scalar.cmpi .slt c2_i32_174 c0_i32_178
  let v366 : BitVec 32 := Scalar.extui v365
  let v367 : BitVec 32 := Scalar.subi v364 v366
  let v368 : BitVec 1 := Scalar.cmpi .ne v362 v367
  let v369 : BitVec 32 := Scalar.remsi v339 c2_i32_174
  let c0_i32_179 : BitVec 32 := 0#32
  let v370 : BitVec 1 := Scalar.cmpi .ne v369 c0_i32_179
  let v371 : BitVec 1 := Scalar.andi v368 v370
  let v357 : BitVec 32 := Scalar.divsi v339 c2_i32_174
  let c1_i32_180 : BitVec 32 := 1#32
  let v372 : BitVec 32 := Scalar.subi v357 c1_i32_180
  let v373 : BitVec 32 := Scalar.select v371 v372 v357
  let c2_i32_181 : BitVec 32 := 2#32
  let v374 : BitVec 32 := Scalar.remsi v373 c2_i32_181
  let c2_i32_186 : BitVec 32 := 2#32
  let v378 : BitVec 32 := Scalar.muli v374 c2_i32_186
  let v379 : BitVec 32 := Scalar.addi v377 v378
  let c2_i32_182 : BitVec 32 := 2#32
  let v375 : BitVec 32 := Scalar.remsi v339 c2_i32_182
  let c1_i32_187 : BitVec 32 := 1#32
  let v380 : BitVec 32 := Scalar.muli v375 c1_i32_187
  let v381 : BitVec 32 := Scalar.addi v379 v380
  v381.toNat
def k0_cond2 (i : grid0.Coords) : BitVec 1 :=
  let arg0 : BitVec 32 := BitVec.ofNat 32 (i 0).val
  let c1_i32_26 : BitVec 32 := 1#32
  let v67 : BitVec 1 := Scalar.cmpi .eq arg0 c1_i32_26
  let v68 : BitVec 32 := Scalar.extui v67
  let c0_i32_27 : BitVec 32 := 0#32
  let v69 : BitVec 1 := Scalar.cmpi .ne v68 c0_i32_27
  v69

def k0_dev8 (d0 : Dev nD) : Nat :=
  let c0_i32_50 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_28 : BitVec 32 := 1#32
  let v70 : BitVec 32 := Scalar.addi v12 c1_i32_28
  let c8_i32 : BitVec 32 := 8#32
  let v71 : BitVec 32 := Scalar.remsi v70 c8_i32
  let c0_i32_30 : BitVec 32 := 0#32
  let v73 : BitVec 1 := Scalar.cmpi .sgt v71 c0_i32_30
  let v74 : BitVec 32 := Scalar.extui v73
  let c0_i32_31 : BitVec 32 := 0#32
  let v75 : BitVec 1 := Scalar.cmpi .slt v71 c0_i32_31
  let v76 : BitVec 32 := Scalar.extui v75
  let v77 : BitVec 32 := Scalar.subi v74 v76
  let c4_i32_29 : BitVec 32 := 4#32
  let c0_i32_32 : BitVec 32 := 0#32
  let v78 : BitVec 1 := Scalar.cmpi .sgt c4_i32_29 c0_i32_32
  let v79 : BitVec 32 := Scalar.extui v78
  let c0_i32_33 : BitVec 32 := 0#32
  let v80 : BitVec 1 := Scalar.cmpi .slt c4_i32_29 c0_i32_33
  let v81 : BitVec 32 := Scalar.extui v80
  let v82 : BitVec 32 := Scalar.subi v79 v81
  let v83 : BitVec 1 := Scalar.cmpi .ne v77 v82
  let v84 : BitVec 32 := Scalar.remsi v71 c4_i32_29
  let c0_i32_34 : BitVec 32 := 0#32
  let v85 : BitVec 1 := Scalar.cmpi .ne v84 c0_i32_34
  let v86 : BitVec 1 := Scalar.andi v83 v85
  let v72 : BitVec 32 := Scalar.divsi v71 c4_i32_29
  let c1_i32_35 : BitVec 32 := 1#32
  let v87 : BitVec 32 := Scalar.subi v72 c1_i32_35
  let v88 : BitVec 32 := Scalar.select v86 v87 v72
  let c4_i32_49 : BitVec 32 := 4#32
  let v108 : BitVec 32 := Scalar.muli v88 c4_i32_49
  let v109 : BitVec 32 := Scalar.addi c0_i32_50 v108
  let c0_i32_37 : BitVec 32 := 0#32
  let v90 : BitVec 1 := Scalar.cmpi .sgt v71 c0_i32_37
  let v91 : BitVec 32 := Scalar.extui v90
  let c0_i32_38 : BitVec 32 := 0#32
  let v92 : BitVec 1 := Scalar.cmpi .slt v71 c0_i32_38
  let v93 : BitVec 32 := Scalar.extui v92
  let v94 : BitVec 32 := Scalar.subi v91 v93
  let c2_i32_36 : BitVec 32 := 2#32
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v71 c2_i32_36
  let c0_i32_41 : BitVec 32 := 0#32
  let v102 : BitVec 1 := Scalar.cmpi .ne v101 c0_i32_41
  let v103 : BitVec 1 := Scalar.andi v100 v102
  let v89 : BitVec 32 := Scalar.divsi v71 c2_i32_36
  let c1_i32_42 : BitVec 32 := 1#32
  let v104 : BitVec 32 := Scalar.subi v89 c1_i32_42
  let v105 : BitVec 32 := Scalar.select v103 v104 v89
  let c2_i32_43 : BitVec 32 := 2#32
  let v106 : BitVec 32 := Scalar.remsi v105 c2_i32_43
  let c2_i32_51 : BitVec 32 := 2#32
  let v110 : BitVec 32 := Scalar.muli v106 c2_i32_51
  let v111 : BitVec 32 := Scalar.addi v109 v110
  let c2_i32_44 : BitVec 32 := 2#32
  let v107 : BitVec 32 := Scalar.remsi v71 c2_i32_44
  let c1_i32_52 : BitVec 32 := 1#32
  let v112 : BitVec 32 := Scalar.muli v107 c1_i32_52
  let v113 : BitVec 32 := Scalar.addi v111 v112
  v113.toNat
def k0_dev9 (d0 : Dev nD) : Nat :=
  let c0_i32_80 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_57 : BitVec 32 := 2#32
  let v122 : BitVec 32 := Scalar.addi v12 c2_i32_57
  let c8_i32_58 : BitVec 32 := 8#32
  let v123 : BitVec 32 := Scalar.remsi v122 c8_i32_58
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c4_i32_59 : BitVec 32 := 4#32
  let c0_i32_62 : BitVec 32 := 0#32
  let v130 : BitVec 1 := Scalar.cmpi .sgt c4_i32_59 c0_i32_62
  let v131 : BitVec 32 := Scalar.extui v130
  let c0_i32_63 : BitVec 32 := 0#32
  let v132 : BitVec 1 := Scalar.cmpi .slt c4_i32_59 c0_i32_63
  let v133 : BitVec 32 := Scalar.extui v132
  let v134 : BitVec 32 := Scalar.subi v131 v133
  let v135 : BitVec 1 := Scalar.cmpi .ne v129 v134
  let v136 : BitVec 32 := Scalar.remsi v123 c4_i32_59
  let c0_i32_64 : BitVec 32 := 0#32
  let v137 : BitVec 1 := Scalar.cmpi .ne v136 c0_i32_64
  let v138 : BitVec 1 := Scalar.andi v135 v137
  let v124 : BitVec 32 := Scalar.divsi v123 c4_i32_59
  let c1_i32_65 : BitVec 32 := 1#32
  let v139 : BitVec 32 := Scalar.subi v124 c1_i32_65
  let v140 : BitVec 32 := Scalar.select v138 v139 v124
  let c4_i32_79 : BitVec 32 := 4#32
  let v160 : BitVec 32 := Scalar.muli v140 c4_i32_79
  let v161 : BitVec 32 := Scalar.addi c0_i32_80 v160
  let c0_i32_67 : BitVec 32 := 0#32
  let v142 : BitVec 1 := Scalar.cmpi .sgt v123 c0_i32_67
  let v143 : BitVec 32 := Scalar.extui v142
  let c0_i32_68 : BitVec 32 := 0#32
  let v144 : BitVec 1 := Scalar.cmpi .slt v123 c0_i32_68
  let v145 : BitVec 32 := Scalar.extui v144
  let v146 : BitVec 32 := Scalar.subi v143 v145
  let c2_i32_66 : BitVec 32 := 2#32
  let c0_i32_69 : BitVec 32 := 0#32
  let v147 : BitVec 1 := Scalar.cmpi .sgt c2_i32_66 c0_i32_69
  let v148 : BitVec 32 := Scalar.extui v147
  let c0_i32_70 : BitVec 32 := 0#32
  let v149 : BitVec 1 := Scalar.cmpi .slt c2_i32_66 c0_i32_70
  let v150 : BitVec 32 := Scalar.extui v149
  let v151 : BitVec 32 := Scalar.subi v148 v150
  let v152 : BitVec 1 := Scalar.cmpi .ne v146 v151
  let v153 : BitVec 32 := Scalar.remsi v123 c2_i32_66
  let c0_i32_71 : BitVec 32 := 0#32
  let v154 : BitVec 1 := Scalar.cmpi .ne v153 c0_i32_71
  let v155 : BitVec 1 := Scalar.andi v152 v154
  let v141 : BitVec 32 := Scalar.divsi v123 c2_i32_66
  let c1_i32_72 : BitVec 32 := 1#32
  let v156 : BitVec 32 := Scalar.subi v141 c1_i32_72
  let v157 : BitVec 32 := Scalar.select v155 v156 v141
  let c2_i32_73 : BitVec 32 := 2#32
  let v158 : BitVec 32 := Scalar.remsi v157 c2_i32_73
  let c2_i32_81 : BitVec 32 := 2#32
  let v162 : BitVec 32 := Scalar.muli v158 c2_i32_81
  let v163 : BitVec 32 := Scalar.addi v161 v162
  let c2_i32_74 : BitVec 32 := 2#32
  let v159 : BitVec 32 := Scalar.remsi v123 c2_i32_74
  let c1_i32_82 : BitVec 32 := 1#32
  let v164 : BitVec 32 := Scalar.muli v159 c1_i32_82
  let v165 : BitVec 32 := Scalar.addi v163 v164
  v165.toNat
def k0_dev10 (d0 : Dev nD) : Nat :=
  let c0_i32_109 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32 : BitVec 32 := 3#32
  let v174 : BitVec 32 := Scalar.addi v12 c3_i32
  let c8_i32_87 : BitVec 32 := 8#32
  let v175 : BitVec 32 := Scalar.remsi v174 c8_i32_87
  let c0_i32_89 : BitVec 32 := 0#32
  let v177 : BitVec 1 := Scalar.cmpi .sgt v175 c0_i32_89
  let v178 : BitVec 32 := Scalar.extui v177
  let c0_i32_90 : BitVec 32 := 0#32
  let v179 : BitVec 1 := Scalar.cmpi .slt v175 c0_i32_90
  let v180 : BitVec 32 := Scalar.extui v179
  let v181 : BitVec 32 := Scalar.subi v178 v180
  let c4_i32_88 : BitVec 32 := 4#32
  let c0_i32_91 : BitVec 32 := 0#32
  let v182 : BitVec 1 := Scalar.cmpi .sgt c4_i32_88 c0_i32_91
  let v183 : BitVec 32 := Scalar.extui v182
  let c0_i32_92 : BitVec 32 := 0#32
  let v184 : BitVec 1 := Scalar.cmpi .slt c4_i32_88 c0_i32_92
  let v185 : BitVec 32 := Scalar.extui v184
  let v186 : BitVec 32 := Scalar.subi v183 v185
  let v187 : BitVec 1 := Scalar.cmpi .ne v181 v186
  let v188 : BitVec 32 := Scalar.remsi v175 c4_i32_88
  let c0_i32_93 : BitVec 32 := 0#32
  let v189 : BitVec 1 := Scalar.cmpi .ne v188 c0_i32_93
  let v190 : BitVec 1 := Scalar.andi v187 v189
  let v176 : BitVec 32 := Scalar.divsi v175 c4_i32_88
  let c1_i32_94 : BitVec 32 := 1#32
  let v191 : BitVec 32 := Scalar.subi v176 c1_i32_94
  let v192 : BitVec 32 := Scalar.select v190 v191 v176
  let c4_i32_108 : BitVec 32 := 4#32
  let v212 : BitVec 32 := Scalar.muli v192 c4_i32_108
  let v213 : BitVec 32 := Scalar.addi c0_i32_109 v212
  let c0_i32_96 : BitVec 32 := 0#32
  let v194 : BitVec 1 := Scalar.cmpi .sgt v175 c0_i32_96
  let v195 : BitVec 32 := Scalar.extui v194
  let c0_i32_97 : BitVec 32 := 0#32
  let v196 : BitVec 1 := Scalar.cmpi .slt v175 c0_i32_97
  let v197 : BitVec 32 := Scalar.extui v196
  let v198 : BitVec 32 := Scalar.subi v195 v197
  let c2_i32_95 : BitVec 32 := 2#32
  let c0_i32_98 : BitVec 32 := 0#32
  let v199 : BitVec 1 := Scalar.cmpi .sgt c2_i32_95 c0_i32_98
  let v200 : BitVec 32 := Scalar.extui v199
  let c0_i32_99 : BitVec 32 := 0#32
  let v201 : BitVec 1 := Scalar.cmpi .slt c2_i32_95 c0_i32_99
  let v202 : BitVec 32 := Scalar.extui v201
  let v203 : BitVec 32 := Scalar.subi v200 v202
  let v204 : BitVec 1 := Scalar.cmpi .ne v198 v203
  let v205 : BitVec 32 := Scalar.remsi v175 c2_i32_95
  let c0_i32_100 : BitVec 32 := 0#32
  let v206 : BitVec 1 := Scalar.cmpi .ne v205 c0_i32_100
  let v207 : BitVec 1 := Scalar.andi v204 v206
  let v193 : BitVec 32 := Scalar.divsi v175 c2_i32_95
  let c1_i32_101 : BitVec 32 := 1#32
  let v208 : BitVec 32 := Scalar.subi v193 c1_i32_101
  let v209 : BitVec 32 := Scalar.select v207 v208 v193
  let c2_i32_102 : BitVec 32 := 2#32
  let v210 : BitVec 32 := Scalar.remsi v209 c2_i32_102
  let c2_i32_110 : BitVec 32 := 2#32
  let v214 : BitVec 32 := Scalar.muli v210 c2_i32_110
  let v215 : BitVec 32 := Scalar.addi v213 v214
  let c2_i32_103 : BitVec 32 := 2#32
  let v211 : BitVec 32 := Scalar.remsi v175 c2_i32_103
  let c1_i32_111 : BitVec 32 := 1#32
  let v216 : BitVec 32 := Scalar.muli v211 c1_i32_111
  let v217 : BitVec 32 := Scalar.addi v215 v216
  v217.toNat
def k0_dev11 (d0 : Dev nD) : Nat :=
  let c0_i32_139 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_116 : BitVec 32 := 4#32
  let v226 : BitVec 32 := Scalar.addi v12 c4_i32_116
  let c8_i32_117 : BitVec 32 := 8#32
  let v227 : BitVec 32 := Scalar.remsi v226 c8_i32_117
  let c0_i32_119 : BitVec 32 := 0#32
  let v229 : BitVec 1 := Scalar.cmpi .sgt v227 c0_i32_119
  let v230 : BitVec 32 := Scalar.extui v229
  let c0_i32_120 : BitVec 32 := 0#32
  let v231 : BitVec 1 := Scalar.cmpi .slt v227 c0_i32_120
  let v232 : BitVec 32 := Scalar.extui v231
  let v233 : BitVec 32 := Scalar.subi v230 v232
  let c4_i32_118 : BitVec 32 := 4#32
  let c0_i32_121 : BitVec 32 := 0#32
  let v234 : BitVec 1 := Scalar.cmpi .sgt c4_i32_118 c0_i32_121
  let v235 : BitVec 32 := Scalar.extui v234
  let c0_i32_122 : BitVec 32 := 0#32
  let v236 : BitVec 1 := Scalar.cmpi .slt c4_i32_118 c0_i32_122
  let v237 : BitVec 32 := Scalar.extui v236
  let v238 : BitVec 32 := Scalar.subi v235 v237
  let v239 : BitVec 1 := Scalar.cmpi .ne v233 v238
  let v240 : BitVec 32 := Scalar.remsi v227 c4_i32_118
  let c0_i32_123 : BitVec 32 := 0#32
  let v241 : BitVec 1 := Scalar.cmpi .ne v240 c0_i32_123
  let v242 : BitVec 1 := Scalar.andi v239 v241
  let v228 : BitVec 32 := Scalar.divsi v227 c4_i32_118
  let c1_i32_124 : BitVec 32 := 1#32
  let v243 : BitVec 32 := Scalar.subi v228 c1_i32_124
  let v244 : BitVec 32 := Scalar.select v242 v243 v228
  let c4_i32_138 : BitVec 32 := 4#32
  let v264 : BitVec 32 := Scalar.muli v244 c4_i32_138
  let v265 : BitVec 32 := Scalar.addi c0_i32_139 v264
  let c0_i32_126 : BitVec 32 := 0#32
  let v246 : BitVec 1 := Scalar.cmpi .sgt v227 c0_i32_126
  let v247 : BitVec 32 := Scalar.extui v246
  let c0_i32_127 : BitVec 32 := 0#32
  let v248 : BitVec 1 := Scalar.cmpi .slt v227 c0_i32_127
  let v249 : BitVec 32 := Scalar.extui v248
  let v250 : BitVec 32 := Scalar.subi v247 v249
  let c2_i32_125 : BitVec 32 := 2#32
  let c0_i32_128 : BitVec 32 := 0#32
  let v251 : BitVec 1 := Scalar.cmpi .sgt c2_i32_125 c0_i32_128
  let v252 : BitVec 32 := Scalar.extui v251
  let c0_i32_129 : BitVec 32 := 0#32
  let v253 : BitVec 1 := Scalar.cmpi .slt c2_i32_125 c0_i32_129
  let v254 : BitVec 32 := Scalar.extui v253
  let v255 : BitVec 32 := Scalar.subi v252 v254
  let v256 : BitVec 1 := Scalar.cmpi .ne v250 v255
  let v257 : BitVec 32 := Scalar.remsi v227 c2_i32_125
  let c0_i32_130 : BitVec 32 := 0#32
  let v258 : BitVec 1 := Scalar.cmpi .ne v257 c0_i32_130
  let v259 : BitVec 1 := Scalar.andi v256 v258
  let v245 : BitVec 32 := Scalar.divsi v227 c2_i32_125
  let c1_i32_131 : BitVec 32 := 1#32
  let v260 : BitVec 32 := Scalar.subi v245 c1_i32_131
  let v261 : BitVec 32 := Scalar.select v259 v260 v245
  let c2_i32_132 : BitVec 32 := 2#32
  let v262 : BitVec 32 := Scalar.remsi v261 c2_i32_132
  let c2_i32_140 : BitVec 32 := 2#32
  let v266 : BitVec 32 := Scalar.muli v262 c2_i32_140
  let v267 : BitVec 32 := Scalar.addi v265 v266
  let c2_i32_133 : BitVec 32 := 2#32
  let v263 : BitVec 32 := Scalar.remsi v227 c2_i32_133
  let c1_i32_141 : BitVec 32 := 1#32
  let v268 : BitVec 32 := Scalar.muli v263 c1_i32_141
  let v269 : BitVec 32 := Scalar.addi v267 v268
  v269.toNat
def k0_dev12 (d0 : Dev nD) : Nat :=
  let c0_i32_168 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32 : BitVec 32 := 5#32
  let v278 : BitVec 32 := Scalar.addi v12 c5_i32
  let c8_i32_146 : BitVec 32 := 8#32
  let v279 : BitVec 32 := Scalar.remsi v278 c8_i32_146
  let c0_i32_148 : BitVec 32 := 0#32
  let v281 : BitVec 1 := Scalar.cmpi .sgt v279 c0_i32_148
  let v282 : BitVec 32 := Scalar.extui v281
  let c0_i32_149 : BitVec 32 := 0#32
  let v283 : BitVec 1 := Scalar.cmpi .slt v279 c0_i32_149
  let v284 : BitVec 32 := Scalar.extui v283
  let v285 : BitVec 32 := Scalar.subi v282 v284
  let c4_i32_147 : BitVec 32 := 4#32
  let c0_i32_150 : BitVec 32 := 0#32
  let v286 : BitVec 1 := Scalar.cmpi .sgt c4_i32_147 c0_i32_150
  let v287 : BitVec 32 := Scalar.extui v286
  let c0_i32_151 : BitVec 32 := 0#32
  let v288 : BitVec 1 := Scalar.cmpi .slt c4_i32_147 c0_i32_151
  let v289 : BitVec 32 := Scalar.extui v288
  let v290 : BitVec 32 := Scalar.subi v287 v289
  let v291 : BitVec 1 := Scalar.cmpi .ne v285 v290
  let v292 : BitVec 32 := Scalar.remsi v279 c4_i32_147
  let c0_i32_152 : BitVec 32 := 0#32
  let v293 : BitVec 1 := Scalar.cmpi .ne v292 c0_i32_152
  let v294 : BitVec 1 := Scalar.andi v291 v293
  let v280 : BitVec 32 := Scalar.divsi v279 c4_i32_147
  let c1_i32_153 : BitVec 32 := 1#32
  let v295 : BitVec 32 := Scalar.subi v280 c1_i32_153
  let v296 : BitVec 32 := Scalar.select v294 v295 v280
  let c4_i32_167 : BitVec 32 := 4#32
  let v316 : BitVec 32 := Scalar.muli v296 c4_i32_167
  let v317 : BitVec 32 := Scalar.addi c0_i32_168 v316
  let c0_i32_155 : BitVec 32 := 0#32
  let v298 : BitVec 1 := Scalar.cmpi .sgt v279 c0_i32_155
  let v299 : BitVec 32 := Scalar.extui v298
  let c0_i32_156 : BitVec 32 := 0#32
  let v300 : BitVec 1 := Scalar.cmpi .slt v279 c0_i32_156
  let v301 : BitVec 32 := Scalar.extui v300
  let v302 : BitVec 32 := Scalar.subi v299 v301
  let c2_i32_154 : BitVec 32 := 2#32
  let c0_i32_157 : BitVec 32 := 0#32
  let v303 : BitVec 1 := Scalar.cmpi .sgt c2_i32_154 c0_i32_157
  let v304 : BitVec 32 := Scalar.extui v303
  let c0_i32_158 : BitVec 32 := 0#32
  let v305 : BitVec 1 := Scalar.cmpi .slt c2_i32_154 c0_i32_158
  let v306 : BitVec 32 := Scalar.extui v305
  let v307 : BitVec 32 := Scalar.subi v304 v306
  let v308 : BitVec 1 := Scalar.cmpi .ne v302 v307
  let v309 : BitVec 32 := Scalar.remsi v279 c2_i32_154
  let c0_i32_159 : BitVec 32 := 0#32
  let v310 : BitVec 1 := Scalar.cmpi .ne v309 c0_i32_159
  let v311 : BitVec 1 := Scalar.andi v308 v310
  let v297 : BitVec 32 := Scalar.divsi v279 c2_i32_154
  let c1_i32_160 : BitVec 32 := 1#32
  let v312 : BitVec 32 := Scalar.subi v297 c1_i32_160
  let v313 : BitVec 32 := Scalar.select v311 v312 v297
  let c2_i32_161 : BitVec 32 := 2#32
  let v314 : BitVec 32 := Scalar.remsi v313 c2_i32_161
  let c2_i32_169 : BitVec 32 := 2#32
  let v318 : BitVec 32 := Scalar.muli v314 c2_i32_169
  let v319 : BitVec 32 := Scalar.addi v317 v318
  let c2_i32_162 : BitVec 32 := 2#32
  let v315 : BitVec 32 := Scalar.remsi v279 c2_i32_162
  let c1_i32_170 : BitVec 32 := 1#32
  let v320 : BitVec 32 := Scalar.muli v315 c1_i32_170
  let v321 : BitVec 32 := Scalar.addi v319 v320
  v321.toNat
def k0_dev13 (d0 : Dev nD) : Nat :=
  let c0_i32_197 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32 : BitVec 32 := 6#32
  let v330 : BitVec 32 := Scalar.addi v12 c6_i32
  let c8_i32_175 : BitVec 32 := 8#32
  let v331 : BitVec 32 := Scalar.remsi v330 c8_i32_175
  let c0_i32_177 : BitVec 32 := 0#32
  let v333 : BitVec 1 := Scalar.cmpi .sgt v331 c0_i32_177
  let v334 : BitVec 32 := Scalar.extui v333
  let c0_i32_178 : BitVec 32 := 0#32
  let v335 : BitVec 1 := Scalar.cmpi .slt v331 c0_i32_178
  let v336 : BitVec 32 := Scalar.extui v335
  let v337 : BitVec 32 := Scalar.subi v334 v336
  let c4_i32_176 : BitVec 32 := 4#32
  let c0_i32_179 : BitVec 32 := 0#32
  let v338 : BitVec 1 := Scalar.cmpi .sgt c4_i32_176 c0_i32_179
  let v339 : BitVec 32 := Scalar.extui v338
  let c0_i32_180 : BitVec 32 := 0#32
  let v340 : BitVec 1 := Scalar.cmpi .slt c4_i32_176 c0_i32_180
  let v341 : BitVec 32 := Scalar.extui v340
  let v342 : BitVec 32 := Scalar.subi v339 v341
  let v343 : BitVec 1 := Scalar.cmpi .ne v337 v342
  let v344 : BitVec 32 := Scalar.remsi v331 c4_i32_176
  let c0_i32_181 : BitVec 32 := 0#32
  let v345 : BitVec 1 := Scalar.cmpi .ne v344 c0_i32_181
  let v346 : BitVec 1 := Scalar.andi v343 v345
  let v332 : BitVec 32 := Scalar.divsi v331 c4_i32_176
  let c1_i32_182 : BitVec 32 := 1#32
  let v347 : BitVec 32 := Scalar.subi v332 c1_i32_182
  let v348 : BitVec 32 := Scalar.select v346 v347 v332
  let c4_i32_196 : BitVec 32 := 4#32
  let v368 : BitVec 32 := Scalar.muli v348 c4_i32_196
  let v369 : BitVec 32 := Scalar.addi c0_i32_197 v368
  let c0_i32_184 : BitVec 32 := 0#32
  let v350 : BitVec 1 := Scalar.cmpi .sgt v331 c0_i32_184
  let v351 : BitVec 32 := Scalar.extui v350
  let c0_i32_185 : BitVec 32 := 0#32
  let v352 : BitVec 1 := Scalar.cmpi .slt v331 c0_i32_185
  let v353 : BitVec 32 := Scalar.extui v352
  let v354 : BitVec 32 := Scalar.subi v351 v353
  let c2_i32_183 : BitVec 32 := 2#32
  let c0_i32_186 : BitVec 32 := 0#32
  let v355 : BitVec 1 := Scalar.cmpi .sgt c2_i32_183 c0_i32_186
  let v356 : BitVec 32 := Scalar.extui v355
  let c0_i32_187 : BitVec 32 := 0#32
  let v357 : BitVec 1 := Scalar.cmpi .slt c2_i32_183 c0_i32_187
  let v358 : BitVec 32 := Scalar.extui v357
  let v359 : BitVec 32 := Scalar.subi v356 v358
  let v360 : BitVec 1 := Scalar.cmpi .ne v354 v359
  let v361 : BitVec 32 := Scalar.remsi v331 c2_i32_183
  let c0_i32_188 : BitVec 32 := 0#32
  let v362 : BitVec 1 := Scalar.cmpi .ne v361 c0_i32_188
  let v363 : BitVec 1 := Scalar.andi v360 v362
  let v349 : BitVec 32 := Scalar.divsi v331 c2_i32_183
  let c1_i32_189 : BitVec 32 := 1#32
  let v364 : BitVec 32 := Scalar.subi v349 c1_i32_189
  let v365 : BitVec 32 := Scalar.select v363 v364 v349
  let c2_i32_190 : BitVec 32 := 2#32
  let v366 : BitVec 32 := Scalar.remsi v365 c2_i32_190
  let c2_i32_198 : BitVec 32 := 2#32
  let v370 : BitVec 32 := Scalar.muli v366 c2_i32_198
  let v371 : BitVec 32 := Scalar.addi v369 v370
  let c2_i32_191 : BitVec 32 := 2#32
  let v367 : BitVec 32 := Scalar.remsi v331 c2_i32_191
  let c1_i32_199 : BitVec 32 := 1#32
  let v372 : BitVec 32 := Scalar.muli v367 c1_i32_199
  let v373 : BitVec 32 := Scalar.addi v371 v372
  v373.toNat
def k0_dev14 (d0 : Dev nD) : Nat :=
  let c0_i32_227 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32_204 : BitVec 32 := 7#32
  let v382 : BitVec 32 := Scalar.addi v12 c7_i32_204
  let c8_i32_205 : BitVec 32 := 8#32
  let v383 : BitVec 32 := Scalar.remsi v382 c8_i32_205
  let c0_i32_207 : BitVec 32 := 0#32
  let v385 : BitVec 1 := Scalar.cmpi .sgt v383 c0_i32_207
  let v386 : BitVec 32 := Scalar.extui v385
  let c0_i32_208 : BitVec 32 := 0#32
  let v387 : BitVec 1 := Scalar.cmpi .slt v383 c0_i32_208
  let v388 : BitVec 32 := Scalar.extui v387
  let v389 : BitVec 32 := Scalar.subi v386 v388
  let c4_i32_206 : BitVec 32 := 4#32
  let c0_i32_209 : BitVec 32 := 0#32
  let v390 : BitVec 1 := Scalar.cmpi .sgt c4_i32_206 c0_i32_209
  let v391 : BitVec 32 := Scalar.extui v390
  let c0_i32_210 : BitVec 32 := 0#32
  let v392 : BitVec 1 := Scalar.cmpi .slt c4_i32_206 c0_i32_210
  let v393 : BitVec 32 := Scalar.extui v392
  let v394 : BitVec 32 := Scalar.subi v391 v393
  let v395 : BitVec 1 := Scalar.cmpi .ne v389 v394
  let v396 : BitVec 32 := Scalar.remsi v383 c4_i32_206
  let c0_i32_211 : BitVec 32 := 0#32
  let v397 : BitVec 1 := Scalar.cmpi .ne v396 c0_i32_211
  let v398 : BitVec 1 := Scalar.andi v395 v397
  let v384 : BitVec 32 := Scalar.divsi v383 c4_i32_206
  let c1_i32_212 : BitVec 32 := 1#32
  let v399 : BitVec 32 := Scalar.subi v384 c1_i32_212
  let v400 : BitVec 32 := Scalar.select v398 v399 v384
  let c4_i32_226 : BitVec 32 := 4#32
  let v420 : BitVec 32 := Scalar.muli v400 c4_i32_226
  let v421 : BitVec 32 := Scalar.addi c0_i32_227 v420
  let c0_i32_214 : BitVec 32 := 0#32
  let v402 : BitVec 1 := Scalar.cmpi .sgt v383 c0_i32_214
  let v403 : BitVec 32 := Scalar.extui v402
  let c0_i32_215 : BitVec 32 := 0#32
  let v404 : BitVec 1 := Scalar.cmpi .slt v383 c0_i32_215
  let v405 : BitVec 32 := Scalar.extui v404
  let v406 : BitVec 32 := Scalar.subi v403 v405
  let c2_i32_213 : BitVec 32 := 2#32
  let c0_i32_216 : BitVec 32 := 0#32
  let v407 : BitVec 1 := Scalar.cmpi .sgt c2_i32_213 c0_i32_216
  let v408 : BitVec 32 := Scalar.extui v407
  let c0_i32_217 : BitVec 32 := 0#32
  let v409 : BitVec 1 := Scalar.cmpi .slt c2_i32_213 c0_i32_217
  let v410 : BitVec 32 := Scalar.extui v409
  let v411 : BitVec 32 := Scalar.subi v408 v410
  let v412 : BitVec 1 := Scalar.cmpi .ne v406 v411
  let v413 : BitVec 32 := Scalar.remsi v383 c2_i32_213
  let c0_i32_218 : BitVec 32 := 0#32
  let v414 : BitVec 1 := Scalar.cmpi .ne v413 c0_i32_218
  let v415 : BitVec 1 := Scalar.andi v412 v414
  let v401 : BitVec 32 := Scalar.divsi v383 c2_i32_213
  let c1_i32_219 : BitVec 32 := 1#32
  let v416 : BitVec 32 := Scalar.subi v401 c1_i32_219
  let v417 : BitVec 32 := Scalar.select v415 v416 v401
  let c2_i32_220 : BitVec 32 := 2#32
  let v418 : BitVec 32 := Scalar.remsi v417 c2_i32_220
  let c2_i32_228 : BitVec 32 := 2#32
  let v422 : BitVec 32 := Scalar.muli v418 c2_i32_228
  let v423 : BitVec 32 := Scalar.addi v421 v422
  let c2_i32_221 : BitVec 32 := 2#32
  let v419 : BitVec 32 := Scalar.remsi v383 c2_i32_221
  let c1_i32_229 : BitVec 32 := 1#32
  let v424 : BitVec 32 := Scalar.muli v419 c1_i32_229
  let v425 : BitVec 32 := Scalar.addi v423 v424
  v425.toNat
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2x2048 : Shape := ⟨2, ![2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1, .bf16⟩
  | .hbm, ⟨11, _⟩ => ⟨S_, .i32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .bf16⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .bf16⟩
  | .hbm, ⟨35, _⟩ => ⟨S4096x1, .bf16⟩
  | .hbm, ⟨36, _⟩ => ⟨S4096x1, .bf16⟩
  | .hbm, ⟨37, _⟩ => ⟨S_, .bf16⟩
  | .hbm, ⟨38, _⟩ => ⟨S4096x1, .bf16⟩
  | .hbm, ⟨39, _⟩ => ⟨S4096x1, .bf16⟩
  | .hbm, ⟨40, _⟩ => ⟨S4096x1, .bf16⟩
  | .hbm, ⟨41, _⟩ => ⟨S_, .bf16⟩
  | .hbm, ⟨42, _⟩ => ⟨S4096x1, .bf16⟩
  | .hbm, ⟨43, _⟩ => ⟨S4096x1, .bf16⟩
  | .hbm, ⟨44, _⟩ => ⟨S4096x2048, .bf16⟩
  | .hbm, ⟨45, _⟩ => ⟨S4096x2048, .bf16⟩
  | .hbm, ⟨46, _⟩ => ⟨S4096x2048, .bf16⟩
  | .hbm, ⟨47, _⟩ => ⟨S4096x2048, .bf16⟩
  | .hbm, ⟨48, _⟩ => ⟨S4096x2048, .bf16⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S2048, .bf16⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S2048, .bf16⟩
  | .hbm, ⟨57, _⟩ => ⟨S1x2048, .bf16⟩
  | .hbm, ⟨58, _⟩ => ⟨S1x2048, .bf16⟩
  | .hbm, ⟨59, _⟩ => ⟨S2x2048, .bf16⟩
  | .hbm, ⟨60, _⟩ => ⟨S2x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_1 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst_3 : Ref sig .tc := ⟨.hbm, 31, rfl⟩
abbrev main_call0_v15 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Slots.lean ====
/-
The landing buffer of the kernel, `8 x 2 x 2048`, as eight slots of `2 x 2048`: which elements a slot has, what the
accumulation of a grid point does to slot 0, what a copy does to the slot it lands in, and the ring of devices.
-/
module

public import proofs.«01_k».proof.Proof.Gen.KernelIdeal.Skeleton
public import proofs.«01_k».proof.Proof.Gen.KernelIdeal.Launch
public import Idealize.ShloMosaic.Lib.ValueIdxCore
public import Idealize.ShloMosaic.Lib.ValueIdxCoords
public import Idealize.ShloMosaic.Lib.ValueLayout

@[expose] public section

noncomputable section

namespace Cert.KernelIdeal.Reduce

open Cert.KernelIdeal Cert.KernelIdeal.Gen
open Idealize.ShloMosaic Idealize.ShloMosaic.TcCoe Idealize.ShloMosaic.ValueIdx

variable {F : FTy → Type} [FloatOps F]

/-! ## The ring of devices -/

set_option backward.proofsInPublic true in
/-- The device `j + 1` after `c`: where `c`'s copy number `j` goes. -/
def tgt (j : Fin 7) (c : Dev nD) : Dev nD := ⟨(c.val + j.val + 1) % 8, Nat.mod_lt _ (by decide)⟩

/-- The device whose copy number `j` lands on `c`. -/
abbrev src (j : Fin 7) (c : Dev nD) : Dev nD := tgt j.rev c

theorem src_tgt (j : Fin 7) (c : Dev nD) : src j (tgt j c) = c := by revert j c; decide
theorem tgt_src (j : Fin 7) (c : Dev nD) : tgt j (src j c) = c := by revert j c; decide

/-- Shifting by `j + 1` as a permutation. -/
def shift (j : Fin 7) : Dev nD ≃ Dev nD := ⟨tgt j, src j, src_tgt j, tgt_src j⟩

theorem dev1_eq (c : Dev nD) {h} : (⟨k0_dev1 c, h⟩ : Dev nD) = tgt 0 c := Fin.ext (by revert c; decide +kernel)
theorem dev2_eq (c : Dev nD) {h} : (⟨k0_dev2 c, h⟩ : Dev nD) = tgt 1 c := Fin.ext (by revert c; decide +kernel)
theorem dev3_eq (c : Dev nD) {h} : (⟨k0_dev3 c, h⟩ : Dev nD) = tgt 2 c := Fin.ext (by revert c; decide +kernel)
theorem dev4_eq (c : Dev nD) {h} : (⟨k0_dev4 c, h⟩ : Dev nD) = tgt 3 c := Fin.ext (by revert c; decide +kernel)
theorem dev5_eq (c : Dev nD) {h} : (⟨k0_dev5 c, h⟩ : Dev nD) = tgt 4 c := Fin.ext (by revert c; decide +kernel)
theorem dev6_eq (c : Dev nD) {h} : (⟨k0_dev6 c, h⟩ : Dev nD) = tgt 5 c := Fin.ext (by revert c; decide +kernel)
theorem dev7_eq (c : Dev nD) {h} : (⟨k0_dev7 c, h⟩ : Dev nD) = tgt 6 c := Fin.ext (by revert c; decide +kernel)
theorem dev8_eq (c : Dev nD) {h} : (⟨k0_dev8 c, h⟩ : Dev nD) = tgt 0 c := Fin.ext (by revert c; decide +kernel)
theorem dev9_eq (c : Dev nD) {h} : (⟨k0_dev9 c, h⟩ : Dev nD) = tgt 1 c := Fin.ext (by revert c; decide +kernel)
theorem dev10_eq (c : Dev nD) {h} : (⟨k0_dev10 c, h⟩ : Dev nD) = tgt 2 c := Fin.ext (by revert c; decide +kernel)
theorem dev11_eq (c : Dev nD) {h} : (⟨k0_dev11 c, h⟩ : Dev nD) = tgt 3 c := Fin.ext (by revert c; decide +kernel)
theorem dev12_eq (c : Dev nD) {h} : (⟨k0_dev12 c, h⟩ : Dev nD) = tgt 4 c := Fin.ext (by revert c; decide +kernel)
theorem dev13_eq (c : Dev nD) {h} : (⟨k0_dev13 c, h⟩ : Dev nD) = tgt 5 c := Fin.ext (by revert c; decide +kernel)
theorem dev14_eq (c : Dev nD) {h} : (⟨k0_dev14 c, h⟩ : Dev nD) = tgt 6 c := Fin.ext (by revert c; decide +kernel)

/-! ## The slots and the cells -/

/-- The landing buffer, whole. -/
abbrev cM : Memref sig .tc .vmem S8x2x2048 .f32 := Memref.whole cc0_scratch0

theorem inbSlot (k : Fin 8) : ∀ a, (![k.val, 0, 0] : Fin 3 → ℕ) a + S1x2x2048.size a ≤ S8x2x2048.size a := by
  revert k; decide
theorem inbSem (k : Fin 8) : ∀ a, (![k.val] : Fin 1 → ℕ) a + S1.size a ≤ S8.size a := by revert k; decide

/-- Slot `k` of it. -/
abbrev slotM (k : Fin 8) : Memref sig .tc .vmem S2x2048 .f32 :=
  (cM.slice (Rect.unit (s := S8x2x2048) ![k.val, 0, 0] S1x2x2048.size (inbSlot k)) (fun _ => rfl)).squeeze S2x2048
    squeezes_S1x2x2048_S2x2048

/-- The counters a copy into slot `k` uses: at the sender, at the receiver. -/
abbrev sendS (k : Fin 8) : DmaSem sig :=
  ((cc0_scratch1.slice (Rect.unit (s := S8) ![k.val] S1.size (inbSem k))).squeeze S_ squeezes_S1_S_).sem
abbrev recvS (k : Fin 8) : DmaSem sig :=
  ((cc0_scratch2.slice (Rect.unit (s := S8) ![k.val] S1.size (inbSem k))).squeeze S_ squeezes_S1_S_).sem

theorem sendS_val (k : Fin 8) : (sendS k).val = 5 + k.val := by revert k; decide +kernel
theorem recvS_val (k : Fin 8) : (recvS k).val = 13 + k.val := by revert k; decide +kernel

/-- The elements of slot `k`. -/
abbrev slotSet (k : Fin 8) : Finset S8x2x2048.Idx := (slotM k).view.set

theorem slotSet_eq (k : Fin 8) :
    slotSet k = (Rect.unit (s := S8x2x2048) ![k.val, 0, 0] S1x2x2048.size (inbSlot k)).set :=
  (View.set_reshape _ _).trans (View.set_slice_whole cc0_scratch0 _)

theorem mem_slotSet (k : Fin 8) (i : S8x2x2048.Idx) : i ∈ slotSet k ↔ (i 0).val = k.val := by
  rw [slotSet_eq]
  refine Rect.mem_set_unit.trans ⟨fun h => ?_, fun h a => ?_⟩
  · have h1 : k.val ≤ (i 0).val ∧ (i 0).val < k.val + 1 := h 0
    omega
  · fin_cases a
    · exact ⟨h.symm.le, Nat.lt_succ_of_le h.le⟩
    · exact ⟨Nat.zero_le _, (i 1).isLt⟩
    · exact ⟨Nat.zero_le _, (i 2).isLt⟩

theorem emb_slot (k : Fin 8) (a : Fin 2) (l : Fin 2048) :
    (slotM k).view.emb (ix2 a l : S2x2048.Idx) = (ix3 k a l : S8x2x2048.Idx) := by
  show (Rect.unit (s := S8x2x2048) ![k.val, 0, 0] S1x2x2048.size (inbSlot k)).emb
    (Shape.reshapeEquiv squeezes_S1x2x2048_S2x2048.numel_eq (ix2 a l)) = _
  rw [reshapeEquiv_ix2_1ab]
  refine (eq_ix3 _).trans ?_
  congr 1 <;> refine Fin.ext ?_
  · show 0 + 1 * a.val = a.val; omega
  · show 0 + 1 * l.val = l.val; omega

/-! ## Contents -/

/-- A landing-buffer contents whose slots all hold the rows `g` and `b`. -/
def rows (g b : Vec F S1x1x2048 .f32) : (cc0_scratch0 : Ref sig .tc).ty.Contents (Elt F) := fun (i : S8x2x2048.Idx) =>
  if (i 1).val = 0 then g (ix3 0 0 (i 2)) else b (ix3 0 0 (i 2))

abbrev rect0 : Rect S8x2x2048 := Rect.unit (s := S8x2x2048) ![0, 0, 0] S1x2x2048.size inb_S8x2x2048_S1x2x2048_0_0_0
abbrev rectG : Rect S8x2x2048 := Rect.unit (s := S8x2x2048) ![0, 0, 0] S1x1x2048.size inb_S8x2x2048_S1x1x2048_0_0_0
abbrev rectB : Rect S8x2x2048 := Rect.unit (s := S8x2x2048) ![0, 1, 0] S1x1x2048.size inb_S8x2x2048_S1x1x2048_0_1_0

theorem rect0_sub : (cM.access rect0).setOn Finset.univ ⊆ slotSet 0 := by
  rw [slotSet_eq]; exact (View.set_slice_whole cc0_scratch0 _).subset
theorem rect0_load : cM.view.setOn rect0.toLoadRect.set ⊆ slotSet 0 := by
  rw [slotSet_eq]; intro i hi
  obtain ⟨x, hx, rfl⟩ := Finset.mem_map.mp hi
  exact hx

theorem mem_rectG (i : S8x2x2048.Idx) : i ∈ rectG.set ↔ (i 0).val = 0 ∧ (i 1).val = 0 := by
  refine Rect.mem_set_unit.trans ⟨fun h => ?_, fun h a => ?_⟩
  · have h0 : 0 ≤ (i 0).val ∧ (i 0).val < 1 := h 0
    have h1 : 0 ≤ (i 1).val ∧ (i 1).val < 1 := h 1
    omega
  · fin_cases a
    · exact ⟨Nat.zero_le _, Nat.lt_succ_of_le h.1.le⟩
    · exact ⟨Nat.zero_le _, Nat.lt_succ_of_le h.2.le⟩
    · exact ⟨Nat.zero_le _, (i 2).isLt⟩
theorem mem_rectB (i : S8x2x2048.Idx) : i ∈ rectB.set ↔ (i 0).val = 0 ∧ (i 1).val = 1 := by
  refine Rect.mem_set_unit.trans ⟨fun h => ?_, fun h a => ?_⟩
  · have h0 : 0 ≤ (i 0).val ∧ (i 0).val < 1 := h 0
    have h1 : 1 ≤ (i 1).val ∧ (i 1).val < 2 := h 1
    omega
  · fin_cases a
    · exact ⟨Nat.zero_le _, Nat.lt_succ_of_le h.1.le⟩
    · exact ⟨h.2.ge, Nat.lt_succ_of_le h.2.le⟩
    · exact ⟨Nat.zero_le _, (i 2).isLt⟩

theorem rectG_load : cM.view.setOn rectG.toLoadRect.set ⊆ slotSet 0 := by
  intro i hi
  obtain ⟨x, hx, rfl⟩ := Finset.mem_map.mp hi
  exact (mem_slotSet 0 _).mpr ((mem_rectG x).mp hx).1
theorem rectB_load : cM.view.setOn rectB.toLoadRect.set ⊆ slotSet 0 := by
  intro i hi
  obtain ⟨x, hx, rfl⟩ := Finset.mem_map.mp hi
  exact (mem_slotSet 0 _).mpr ((mem_rectB x).mp hx).1
theorem rectG_set : (cM.access rectG).setOn Finset.univ = rectG.set := View.set_slice_whole cc0_scratch0 _
theorem rectB_set : (cM.access rectB).setOn Finset.univ = rectB.set := View.set_slice_whole cc0_scratch0 _
theorem rectG_sub : (cM.access rectG).setOn Finset.univ ⊆ slotSet 0 := by
  rw [rectG_set]; exact fun i hi => (mem_slotSet 0 _).mpr ((mem_rectG i).mp hi).1
theorem rectB_sub : (cM.access rectB).setOn Finset.univ ⊆ slotSet 0 := by
  rw [rectB_set]; exact fun i hi => (mem_slotSet 0 _).mpr ((mem_rectB i).mp hi).1

theorem emb_rectG (l : Fin 2048) : rectG.emb (ix3 0 0 l : S1x1x2048.Idx) = (ix3 0 0 l : S8x2x2048.Idx) := by
  refine (eq_ix3 _).trans ?_
  congr 1; refine Fin.ext ?_
  show 0 + 1 * l.val = l.val; omega
theorem emb_rectB (l : Fin 2048) : rectB.emb (ix3 0 0 l : S1x1x2048.Idx) = (ix3 0 1 l : S8x2x2048.Idx) := by
  refine (eq_ix3 _).trans ?_
  congr 1; refine Fin.ext ?_
  show 0 + 1 * l.val = l.val; omega

theorem eq_row (x : S1x1x2048.Idx) : x = ix3 0 0 (x 2) := by
  refine (eq_ix3 x).trans ?_
  congr 1 <;> exact Subsingleton.elim (α := Fin 1) _ _

theorem read_g (g b : Vec F S1x1x2048 .f32) : cM.view.readAt (Elt F) rectG.toLoadRect (rows g b) = g := by
  funext x
  rw [eq_row x]
  exact (congrArg (rows g b) (emb_rectG (x 2))).trans (if_pos rfl)
theorem read_b (g b : Vec F S1x1x2048 .f32) : cM.view.readAt (Elt F) rectB.toLoadRect (rows g b) = b := by
  funext x
  rw [eq_row x]
  exact (congrArg (rows g b) (emb_rectB (x 2))).trans (if_neg Nat.one_ne_zero)

theorem write_g (g b w : Vec F S1x1x2048 .f32) (i : S8x2x2048.Idx) (hi : i ∈ slotSet 0) :
    (cM.access rectG).write (Elt F) (rows g b) w Finset.univ i = rows w b i := by
  have h0 := (mem_slotSet 0 i).mp hi
  by_cases h1 : (i 1).val = 0
  · have e : i = (cM.access rectG).emb (ix3 0 0 (i 2) : S1x1x2048.Idx) := by
      refine Eq.trans ?_ (emb_rectG (i 2)).symm
      refine (eq_ix3 i).trans ?_
      congr 1 <;> exact Fin.ext (by assumption)
    rw [e]
    refine (View.write_emb_of_mem _ _ (Finset.mem_univ _)).trans ?_
    exact ((congrArg (rows w b) (emb_rectG (i 2))).trans (if_pos rfl)).symm
  · rw [View.write_of_not_mem _ _ _ (by rw [rectG_set, mem_rectG]; exact fun h => h1 h.2)]
    exact (if_neg h1).trans (if_neg h1).symm
theorem write_b (g b w : Vec F S1x1x2048 .f32) (i : S8x2x2048.Idx) (hi : i ∈ slotSet 0) :
    (cM.access rectB).write (Elt F) (rows g b) w Finset.univ i = rows g w i := by
  have h0 := (mem_slotSet 0 i).mp hi
  by_cases h1 : (i 1).val = 0
  · rw [View.write_of_not_mem _ _ _ (by rw [rectB_set, mem_rectB]; exact fun h => by omega)]
    exact (if_pos h1).trans (if_pos h1).symm
  · have h1' : (i 1).val = 1 := by have : (i 1).val < 2 := (i 1).isLt; omega
    have e : i = (cM.access rectB).emb (ix3 0 0 (i 2) : S1x1x2048.Idx) := by
      refine Eq.trans ?_ (emb_rectB (i 2)).symm
      refine (eq_ix3 i).trans ?_
      congr 1 <;> exact Fin.ext (by assumption)
    rw [e]
    refine (View.write_emb_of_mem _ _ (Finset.mem_univ _)).trans ?_
    exact ((congrArg (rows g w) (emb_rectB (i 2))).trans (if_neg Nat.one_ne_zero)).symm

/-- The row the kernel starts its sums from. -/
def zrow : Vec F S1x1x2048 .f32 := fun _ => Scalar.ofBits .f32 0x00000000#32

theorem write_zero (f : (cc0_scratch0 : Ref sig .tc).ty.Contents (Elt F)) (i : S8x2x2048.Idx) (hi : i ∈ slotSet 0) :
    (cM.access rect0).write (Elt F) f (k0_pay4 (F := F)) Finset.univ i = rows zrow zrow i := by
  have h : i ∈ (cM.access rect0).setOn Finset.univ := by
    rw [show (cM.access rect0).setOn Finset.univ = rect0.set from View.set_slice_whole cc0_scratch0 _]
    rw [slotSet_eq] at hi; exact hi
  obtain ⟨x, -, rfl⟩ := Finset.mem_map.mp h
  refine (View.write_emb_of_mem _ _ (Finset.mem_univ _)).trans ?_
  unfold rows zrow
  rw [ite_self]; rfl

/-- What a device's landing buffer holds once every copy into it has landed, `P c` being what device `c` accumulated in its slot 0:
    slot 0 its own, slot `j + 1` that of the device whose copy number `j` goes to it. -/
def gathered (P : Dev nD → (cc0_scratch0 : Ref sig .tc).ty.Contents (Elt F)) (c : Dev nD) :
    (cc0_scratch0 : Ref sig .tc).ty.Contents (Elt F) := fun (i : S8x2x2048.Idx) =>
  if h : (i 0).val = 0 then P c i
  else P (src ⟨(i 0).val - 1, by have : (i 0).val < 8 := (i 0).isLt; omega⟩ c) (ix3 0 (i 1) (i 2) : S8x2x2048.Idx)

theorem gathered_zero (P : Dev nD → (cc0_scratch0 : Ref sig .tc).ty.Contents (Elt F)) (c : Dev nD) (i : S8x2x2048.Idx)
    (hi : i ∈ slotSet 0) : P c i = gathered P c i := by
  have h : (i 0).val = 0 := (mem_slotSet 0 i).mp hi
  unfold gathered; rw [dif_pos h]

theorem gathered_slot (P : Dev nD → (cc0_scratch0 : Ref sig .tc).ty.Contents (Elt F)) (c : Dev nD) (j : Fin 7) (a : Fin 2) (l : Fin 2048) :
    gathered P c (ix3 j.succ a l : S8x2x2048.Idx) = P (src j c) (ix3 0 a l : S8x2x2048.Idx) := by
  refine (dif_neg (by show ¬ (j.val + 1 = 0); omega)).trans ?_
  rfl

/-- A copy of slot 0 of device `src j c` into slot `j + 1` of device `c`. -/
theorem write_slot (P : Dev nD → (cc0_scratch0 : Ref sig .tc).ty.Contents (Elt F)) (c : Dev nD) (j : Fin 7)
    (fd : (cc0_scratch0 : Ref sig .tc).ty.Contents (Elt F)) (i : S8x2x2048.Idx) (hi : i ∈ slotSet j.succ) :
    (slotM j.succ).view.write (Elt F) fd ((slotM 0).view.read (Elt F) (P (src j c))) Finset.univ i = gathered P c i := by
  obtain ⟨x, -, rfl⟩ := Finset.mem_map.mp hi
  refine (View.write_emb_of_mem _ _ (Finset.mem_univ _)).trans ?_
  rw [show x = (ix2 (x 0) (x 1) : S2x2048.Idx) from eq_ix2 x]
  exact (congrArg (P (src j c)) (emb_slot 0 (x 0) (x 1))).trans
    ((congrArg (gathered P c) (emb_slot j.succ (x 0) (x 1))).trans (gathered_slot P c j (x 0) (x 1))).symm

/-- The slots cut the buffer up. -/
theorem slots_disjoint (k k' : Fin 8) (h : k ≠ k') : Disjoint (slotSet k) (slotSet k') :=
  Finset.disjoint_left.mpr fun i hi hi' => h (Fin.ext (((mem_slotSet k i).mp hi).symm.trans ((mem_slotSet k' i).mp hi')))
theorem slots_cover : (Finset.univ : Finset (Fin 8)).biUnion slotSet = Finset.univ := by
  ext i
  refine ⟨fun _ => Finset.mem_univ _, fun _ => Finset.mem_biUnion.mpr ⟨i 0, Finset.mem_univ _, (mem_slotSet _ i).mpr rfl⟩⟩

end Cert.KernelIdeal.Reduce

end
-- ==== Proof.Talk.lean ====
/-
The protocol between the devices. Every device pays one unit to the barrier counter of each of the seven others, with
the slot that device will copy into and the fact that its own landing counter for that slot is ready; it waits for the
seven units it is paid; it copies its slot 0 to each of the others; it waits for its copies to have left and for the
seven copies into its own slots to have landed.
-/
module

public import proofs.«01_k».proof.Proof.Slots
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.Tactic

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging copies' and the protocol's, whose duties are named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A contents of the landing buffer. -/
abbrev CBuf (F : FTy → Type) : Type := (cc0_scratch0 : Ref sig .tc).ty.Contents (Elt F)

-- what every device accumulates in its slot 0
variable (P : Dev nD → CBuf F)

/-! ## The cells -/

abbrev barS : Sem sig := (SemArray.scalar (sig.barrier 0 rfl) : Sems sig S_).sem
abbrev barCell (c : Dev nD) : GSem nD τ sig := ((c : Thread nD τ), .reg barS)
abbrev sendCell (c : Dev nD) (j : Fin 7) : GSem nD τ sig := ((c : Thread nD τ), .dma (sendS j.succ))
abbrev recvCell (c : Dev nD) (j : Fin 7) : GSem nD τ sig := ((c : Thread nD τ), .dma (recvS j.succ))

/-- The units a copy of a slot is worth. -/
abbrev N : ℕ := (slotM 0).view.dmaCredit
theorem N_pos : 0 < N := View.dmaCredit_pos _ (by decide)
theorem credit_slot (k : Fin 8) : (slotM k).view.dmaCredit = N := by revert k; decide +kernel

/-- Slot `k` of device `c` at contents `f`. -/
def slotPts (c : Dev nD) (k : Fin 8) (f : CBuf F) : sProp 𝕄 :=
  (slotM k).view.loc (c : Thread nD τ) ↦[(slotM k).view.set]{fullShare} f
/-- The share of slot 0 of device `c` that copy number `j` reads, at what `c` accumulated. -/
def srcPts (c : Dev nD) (j : Fin 7) : sProp 𝕄 :=
  (slotM 0).view.loc (c : Thread nD τ) ↦[(slotM 0).view.set]{ShareLeaves.leaf 3 fullShare j.succ} P c

instance slotPts_storable (c : Dev nD) (k) (f) : BI.Storable (upEmb : UEmb _ 𝕄) (slotPts (F := F) c k f) := by
  unfold slotPts; infer_instance
instance srcPts_storable (c : Dev nD) (j) : BI.Storable (upEmb : UEmb _ 𝕄) (srcPts (F := F) P c j) := by
  unfold srcPts; infer_instance

/-! ## The schedule -/

/-- What the unit of number `i` on device `c`'s barrier hands over: the slot of device `tgt i c` that `c` copies into. -/
def barPay (c : Dev nD) (i : Fin 7) : sProp 𝕄 :=
  iprop((∃ f, slotPts (tgt i c) i.succ f) ∗ reached ER (recvCell (tgt i c) i) 0)
/-- What landing in slot `j + 1` of device `c` hands over: the slot, holding the sender's rows. -/
def recvPay (c : Dev nD) (j : Fin 7) : sProp 𝕄 := slotPts c j.succ (gathered P c)

set_option backward.proofsInPublic true in
/-- `n` as one of the seven numbers. -/
def num (n : ℕ) : Fin 7 := ⟨n % 7, Nat.mod_lt _ (by decide)⟩

abbrev IsSend (q : DmaSem sig) : Prop := 6 ≤ q.val ∧ q.val ≤ 12
abbrev IsRecv (q : DmaSem sig) : Prop := 14 ≤ q.val

/-- One round. A barrier cell has the seven duties, of one unit each; a departure or landing cell the one duty `0`, of a slot's credit. -/
def sched : Rounds.Schedule (GSem nD τ sig) (Fin 7) 𝕄 where
  duties g r := if r = 0 ∧ g.1.2 = .tc then
      (match g.2 with
        | .reg s => if s = barS then Finset.univ else ∅
        | .dma q => if IsRecv q ∨ IsSend q then {0} else ∅)
    else ∅
  unitless _ := False
  amount g _ _ := match g.2 with
    | .reg _ => 1
    | .dma _ => N
  payload g _ d := match g.2 with
    | .reg s => if s = barS then barPay g.1.1 d else iprop(emp)
    | .dma q => if IsRecv q then recvPay P g.1.1 (num q.val) else if IsSend q then srcPts P g.1.1 (num (q.val + 1)) else iprop(emp)
  amount_pos g _ _ _ := by
    rcases g with ⟨t, s | q⟩
    · exact Nat.one_pos
    · exact N_pos

instance sched_storable (g : GSem nD τ sig) (r : ℕ) (d : Fin 7) :
    BI.Storable (upEmb : UEmb _ 𝕄) ((sched (F := F) P).payload g r d) := by
  rcases g with ⟨t, s | q⟩
  · show BI.Storable upEmb (if s = barS then barPay t.1 d else iprop(emp))
    unfold barPay; split <;> infer_instance
  · show BI.Storable upEmb (if IsRecv q then recvPay P t.1 (num q.val) else if IsSend q then srcPts P t.1 (num (q.val + 1)) else iprop(emp))
    unfold recvPay; (repeat' split) <;> infer_instance

section Sched

variable (c : Dev nD) (j : Fin 7)

theorem isRecv : IsRecv (recvS j.succ) := by
  have h := recvS_val j.succ; rw [Fin.val_succ] at h; show 14 ≤ _; omega
theorem isSend : IsSend (sendS j.succ) := by
  have h := sendS_val j.succ; rw [Fin.val_succ] at h; have := j.isLt; exact ⟨by omega, by omega⟩
theorem not_isRecv : ¬ IsRecv (sendS j.succ) := by
  have h := (isSend j).2; show ¬ (14 ≤ _); omega
theorem num_recv : num (recvS j.succ).val = j := by
  have h := recvS_val j.succ; rw [Fin.val_succ] at h; have := j.isLt
  exact Fin.ext (by show _ % 7 = _; omega)
theorem num_send : num ((sendS j.succ).val + 1) = j := by
  have h := sendS_val j.succ; rw [Fin.val_succ] at h; have := j.isLt
  exact Fin.ext (by show _ % 7 = _; omega)

theorem duties_bar : (sched (F := F) P).duties (barCell c) 0 = Finset.univ := by
  dsimp only [sched]; rw [if_pos ⟨rfl, rfl⟩, if_pos rfl]
theorem duties_send : (sched (F := F) P).duties (sendCell c j) 0 = {0} := by
  dsimp only [sched]; rw [if_pos ⟨rfl, rfl⟩, if_pos (Or.inr (isSend j))]
theorem duties_recv : (sched (F := F) P).duties (recvCell c j) 0 = {0} := by
  dsimp only [sched]; rw [if_pos ⟨rfl, rfl⟩, if_pos (Or.inl (isRecv j))]
theorem duties_later (g : GSem nD τ sig) : ∀ r, 1 ≤ r → (sched (F := F) P).duties g r = ∅ :=
  fun r hr => if_neg fun h => by omega

theorem amount_bar (d : Fin 7) : (sched (F := F) P).amount (barCell c) 0 d = 1 := rfl
theorem amount_send (d : Fin 7) : (sched (F := F) P).amount (sendCell c j) 0 d = N := rfl
theorem amount_recv (d : Fin 7) : (sched (F := F) P).amount (recvCell c j) 0 d = N := rfl

theorem payload_bar (d : Fin 7) : (sched (F := F) P).payload (barCell c) 0 d = barPay c d := by
  dsimp only [sched]; rw [if_pos rfl]
theorem payload_recv (d : Fin 7) : (sched (F := F) P).payload (recvCell c j) 0 d = recvPay P c j :=
  (if_pos (isRecv j)).trans (congrArg (recvPay P c) (num_recv j))
theorem payload_send (d : Fin 7) : (sched (F := F) P).payload (sendCell c j) 0 d = srcPts P c j :=
  ((if_neg (not_isRecv j)).trans (if_pos (isSend j))).trans (congrArg (srcPts P c) (num_send j))

theorem expect_bar : (sched (F := F) P).expect (barCell c) 0 = 7 := by
  unfold Schedule.expect Schedule.amountOf
  rw [duties_bar, Finset.sum_congr rfl fun d _ => amount_bar P c d]; rfl
theorem expect_send : (sched (F := F) P).expect (sendCell c j) 0 = N := by
  unfold Schedule.expect Schedule.amountOf; rw [duties_send, Finset.sum_singleton, amount_send]
theorem expect_recv : (sched (F := F) P).expect (recvCell c j) 0 = N := by
  unfold Schedule.expect Schedule.amountOf; rw [duties_recv, Finset.sum_singleton, amount_recv]

theorem rest_bar : bigSep ((sched (F := F) P).duties (barCell c) 0 \ ∅) (fun d => (sched (F := F) P).payload (barCell c) 0 d)
    = bigSep Finset.univ (barPay (F := F) c) := by
  rw [Finset.sdiff_empty, duties_bar, bigSep_congr (fun d _ => payload_bar P c d)]
theorem rest_send : bigSep ((sched (F := F) P).duties (sendCell c j) 0 \ ∅) (fun d => (sched (F := F) P).payload (sendCell c j) 0 d)
    = srcPts P c j := by
  rw [Finset.sdiff_empty, duties_send, bigSep_singleton, payload_send]
theorem rest_recv : bigSep ((sched (F := F) P).duties (recvCell c j) 0 \ ∅) (fun d => (sched (F := F) P).payload (recvCell c j) 0 d)
    = recvPay P c j := by
  rw [Finset.sdiff_empty, duties_recv, bigSep_singleton, payload_recv]

end Sched

/-! ## What a device owes -/

/-- The seven numbers in the order of the program. -/
abbrev all : List (Fin 7) := [0, 1, 2, 3, 4, 5, 6]
theorem all_univ : (Finset.univ : Finset (Fin 7)) = all.toFinset := by decide
theorem all_nodup : all.Nodup := by decide

/-- The landing credits of the copies of numbers `js`. -/
def sendDebt (c : Dev nD) : List (Fin 7) → CellTallies nD τ sig Unit
  | [] => 0
  | j :: js => sendDebt c js + tallyAt (recvCell (tgt j c) j) () N
/-- The barrier units of numbers `js`, and all the copies. -/
def sigDebt (c : Dev nD) : List (Fin 7) → CellTallies nD τ sig Unit
  | [] => sendDebt c all
  | j :: js => sigDebt c js + tallyAt (barCell (tgt j c)) () 1

/-- What device `c` owes at launch. -/
abbrev O₀ (c : Dev nD) : CellTallies nD τ sig Unit := sigDebt c all

def L (g : GSem nD τ sig) : Finset Unit := if g.1.2 = .tc then {()} else ∅
/-- Barrier cells at 1, landing cells at 2, everything else at 0. -/
def lv (g : GSem nD τ sig) (_ : Unit) : ℕ := match g.2 with
  | .reg _ => 1
  | .dma q => if IsRecv q then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u u' : Unit} {n : ℕ} (h : 0 < tallyAt g u n g' u') : g' = g := by
  by_contra hn
  rw [tallyAt_apply, if_neg (fun h' => hn h'.1)] at h
  exact Nat.lt_irrefl 0 h

theorem sendDebt_pos {c : Dev nD} {g : GSem nD τ sig} {u : Unit} : ∀ {js : List (Fin 7)}, 0 < sendDebt c js g u →
    ∃ j, g = recvCell (tgt j c) j
  | [], h => absurd h (Nat.lt_irrefl 0)
  | j :: js, h => by
    unfold sendDebt at h
    rw [Pi.add_apply, Finsupp.add_apply] at h
    rcases Nat.add_pos_iff_pos_or_pos.mp h with h1 | h1
    · exact sendDebt_pos h1
    · exact ⟨j, tally_pos h1⟩
theorem sigDebt_pos {c : Dev nD} {g : GSem nD τ sig} {u : Unit} : ∀ {js : List (Fin 7)}, 0 < sigDebt c js g u →
    (∃ j, g = recvCell (tgt j c) j) ∨ ∃ j, g = barCell (tgt j c)
  | [], h => Or.inl (sendDebt_pos h)
  | j :: js, h => by
    unfold sigDebt at h
    rw [Pi.add_apply, Finsupp.add_apply] at h
    rcases Nat.add_pos_iff_pos_or_pos.mp h with h1 | h1
    · exact sigDebt_pos h1
    · exact Or.inr ⟨j, tally_pos h1⟩

theorem lv_recv (c : Dev nD) (j : Fin 7) : lv (recvCell c j) () = 2 := if_pos (isRecv j)

/-- A wait on a cell of level 0 owes only cells above it. -/
theorem mayWait_low (c : Dev nD) (q : DmaSem sig) (hq : ¬ IsRecv q) (O : CellTallies nD τ sig Unit)
    (hO : ∀ g u, 0 < O g u → (∃ j, g = recvCell (tgt j c) j) ∨ ∃ j, g = barCell (tgt j c)) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨j, rfl⟩ | ⟨j, rfl⟩ <;> exact Finset.mem_singleton_self _)
    (fun p hp => by rw [Finset.mem_singleton.mp hp]; exact (if_neg hq).le)
    (fun g u hg => by
      rcases hO g u hg with ⟨j, rfl⟩ | ⟨j, rfl⟩
      · exact lt_of_lt_of_eq (by decide) (lv_recv _ j).symm
      · exact Nat.one_pos)

/-- The wait on its barrier owes landing cells only. -/
theorem mayWait_bar (c : Dev nD) : (levAts L lv : sProp 𝕄) ⊢ MayWait (c : Thread nD τ) (.reg barS) () (sendDebt c all) :=
  MayOwe.of_cut (L := L) (lev := lv) 1 (fun p hp => by rw [Finset.mem_singleton.mp hp, L_tc]; exact Finset.mem_singleton_self _)
    (fun g u hg => by rcases sendDebt_pos hg with ⟨j, rfl⟩; exact Finset.mem_singleton_self _)
    (fun p hp => by rw [Finset.mem_singleton.mp hp]; exact le_refl 1)
    (fun g u hg => by
      rcases sendDebt_pos hg with ⟨j, rfl⟩
      exact lt_of_lt_of_eq (by decide) (lv_recv _ j).symm)

/-! ## The cells' invariants -/

def barCells : Finset (GSem nD τ sig) := Finset.univ.image barCell
def linkCells : Finset (GSem nD τ sig) :=
  (Finset.univ.image fun p : Dev nD × Fin 7 => sendCell p.1 p.2) ∪ Finset.univ.image fun p : Dev nD × Fin 7 => recvCell p.1 p.2

theorem mem_bar (c : Dev nD) : barCell c ∈ barCells ∪ linkCells :=
  Finset.mem_union_left _ (Finset.mem_image_of_mem _ (Finset.mem_univ c))
theorem mem_send (c : Dev nD) (j : Fin 7) : sendCell c j ∈ linkCells :=
  Finset.mem_union_left _ (Finset.mem_image.mpr ⟨(c, j), Finset.mem_univ _, rfl⟩)
theorem mem_recv (c : Dev nD) (j : Fin 7) : recvCell c j ∈ linkCells :=
  Finset.mem_union_right _ (Finset.mem_image.mpr ⟨(c, j), Finset.mem_univ _, rfl⟩)

/-- Every cell's invariant, under the names `κ`, the level facts, and that every barrier cell is ready. -/
def records (κ : GSem nD τ sig → ℕ) : sProp 𝕄 :=
  iprop((bigSep (barCells ∪ linkCells) fun g => cellInv ER (sched P) (κ g) g) ∗ (bigSep barCells fun g => reached ER g 0) ∗ levAts L lv)

instance records_persistent (κ : GSem nD τ sig → ℕ) : BI.Persistent (records (F := F) P κ) := by unfold records; infer_instance

theorem inv_at (κ : GSem nD τ sig → ℕ) (g : GSem nD τ sig) (h : g ∈ barCells ∪ linkCells) :
    records (F := F) P κ ⊢ cellInv ER (sched P) (κ g) g := by
  unfold records
  iintro ⟨H, -, -⟩
  iapply (show (bigSep (barCells ∪ linkCells) fun g => cellInv ER (sched P) (κ g) g) ⊢ cellInv ER (sched P) (κ g) g from bigSep_elim h); iexact H
theorem ready_at (κ : GSem nD τ sig → ℕ) (c : Dev nD) : records (F := F) P κ ⊢ reached ER (barCell c) 0 := by
  unfold records
  iintro ⟨-, H, -⟩
  iapply (show (bigSep barCells fun g => (reached ER g 0 : sProp 𝕄)) ⊢ reached ER (barCell c) 0 from bigSep_elim (Finset.mem_image_of_mem _ (Finset.mem_univ c))); iexact H
theorem lev_at (κ : GSem nD τ sig → ℕ) : records (F := F) P κ ⊢ levAts L lv := by
  unfold records
  iintro ⟨-, -, H⟩; iexact H

abbrev 𝒱₀ : Variants := Variants.none

/-- Device `c` owes `O`, whatever it has waited for. -/
def owing (c : Dev nD) (O : CellTallies nD τ sig Unit) : sProp 𝕄 := iprop(∃ W, owes (c : Thread nD τ) O W)

/-! ## The steps -/

section Steps

variable (κ : GSem nD τ sig → ℕ) (c : Dev nD) {α : Type}

/-- What the unit of number `j` needs: the duty, and the slot it hands over with the landing cell's fact. -/
def sigRes (j : Fin 7) : sProp 𝕄 :=
  iprop(dutyTok ER (barCell (tgt j c)) 0 j.rev ∗ (∃ f, slotPts c j.rev.succ f) ∗ reached ER (recvCell c j.rev) 0)

/-- One unit paid to the barrier of device `tgt j c`. -/
theorem wp_sig (j : Fin 7) (js : List (Fin 7)) (n : Dev nD) (hn : n = tgt j c)
    {k : PUnit → Prog (TpuEff nD τ sig (Elt F) Λ₀ .tc) α} {Q : α → sProp 𝕄} :
    iprop(records P κ ∗ owing c (sigDebt c (j :: js)) ∗ bigSepL (j :: js) (sigRes (F := F) c))
      ⊢ iprop(((owing c (sigDebt c js) ∗ bigSepL js (sigRes (F := F) c)) -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc n : Thread nD τ) barS (1#32).toInt) k) Q) := by
  subst hn
  rw [bigSepL_cons']
  unfold owing sigRes
  iintro ⟨#HR, ⟨%W, HO⟩, ⟨Htok, ⟨%f, Hs⟩, #Hr⟩, Hrest⟩ Hk
  iapply (Rounds.wp_signal 𝒱₀ ER (sched P) (c : Thread nD τ) none (dst := (tgt j c : Thread nD τ)) (κ := κ (barCell (tgt j c)))
      (d := j.rev) (by rw [duties_bar]; exact Finset.mem_univ _) ((amount_bar P (tgt j c) j.rev).trans (by decide)) () (sigDebt c js) rfl)
    $$ [HO Htok Hs]
  · isplitr; · iapply (inv_at P κ _ (mem_bar _)); iexact HR
    isplitl [HO]; · iexact HO
    isplitl [Htok]; · iexact Htok
    isplitl [Hs]
    · rw [payload_bar]; unfold barPay; rw [show tgt j.rev (tgt j c) = c from src_tgt j c]
      isplitl [Hs]; · iexists f; iexact Hs
      iexact Hr
    · iapply (ready_at P κ); iexact HR
  iintro HO
  iapply Hk
  isplitl [HO]; · iexists W; iexact HO
  iexact Hrest

/-- The wait for the seven units: the slots to copy into, with their facts. -/
theorem wp_bar {k : PUnit → Prog (TpuEff nD τ sig (Elt F) Λ₀ .tc) α} {Q : α → sProp 𝕄} :
    iprop(records P κ ∗ owing c (sendDebt c all) ∗ atPos ER (barCell c) 0 ∅ 0 ∗ cred (tallyAt (barCell c) () 7))
      ⊢ iprop(((owing c (sendDebt c all) ∗ semVal (barCell c) 0 ∗ bigSep Finset.univ (barPay (F := F) c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (7#32).toInt) k) Q) := by
  unfold owing
  iintro ⟨#HR, ⟨%W, HO⟩, Hat, Hc⟩ Hk
  iapply (Rounds.wp_wait_rest_token 𝒱₀ ER (sched P) (c : Thread nD τ) none (κ := κ (barCell c))
      (wpE_semWait_eq 𝒱₀ (c : Thread nD τ) none Set.univ) (Set.mem_univ _) () (O := sendDebt c all) (W := W) (R := 0) (m := 0) (T := ∅)
      (by rw [expect_bar]; decide)) $$ [Hc HO Hat]
  · isplitr; · iapply (inv_at P κ _ (mem_bar _)); iexact HR
    isplitl [Hc]; · iexact Hc
    isplitl [HO]; · iexact HO
    isplitr; · iapply (mayWait_bar c); iapply (lev_at P κ); iexact HR
    iexact Hat
  iintro ⟨HO, Hat, -, Hpay⟩
  imod (Rounds.cell_close ER (sched P) (Set.mem_univ (κ (barCell c))) (fun h => h) (R := 0 + 1) (duties_later P (barCell c))) $$ [Hat] with Hz
  · isplitr; · iapply (inv_at P κ _ (mem_bar _)); iexact HR
    iexact Hat
  iapply Hk
  isplitl [HO]; · iexists _; iexact HO
  isplitl [Hz]; · iexact Hz
  ihave Hp := (Entails.of_eq (rest_bar P c)) $$ Hpay
  iexact Hp

/-- What copy number `j` needs: the two duties it discharges, the slot it fills, the share of slot 0 it reads. -/
def sendRes (j : Fin 7) : sProp 𝕄 :=
  iprop(dutyTok ER (sendCell c j) 0 0 ∗ reached ER (sendCell c j) 0 ∗ dutyTok ER (recvCell (tgt j c) j) 0 0
    ∗ reached ER (recvCell (tgt j c) j) 0 ∗ (∃ f, slotPts (tgt j c) j.succ f) ∗ srcPts P c j)

/-- Copy number `j`, to device `tgt j c`. -/
theorem wp_copy (j : Fin 7) (js : List (Fin 7)) (n : Dev nD) (hn : n = tgt j c)
    {hsc : (slotM j.succ : Memref sig (Dev.tc n : Thread nD τ).2.kind .vmem S2x2048 .f32).view.ref.isScScratch = false}
    {hsrc : (slotM 0).view.WordExact} {hdst : (slotM j.succ).view.WordExact}
    {hsem : DmaTarget.Typed .vmem (.dma (recvS j.succ)) (.remote (Dev.tc n : Thread nD τ) (slotM j.succ) (.dma (sendS j.succ)) hsc)}
    {k : PUnit → Prog (TpuEff nD τ sig (Elt F) Λ₀ .tc) α} {Q : α → sProp 𝕄} :
    iprop(records P κ ∗ owing c (sendDebt c (j :: js)) ∗ bigSepL (j :: js) (sendRes (F := F) P c))
      ⊢ iprop(((owing c (sendDebt c js) ∗ cred (tallyAt (sendCell c j) () N) ∗ bigSepL js (sendRes (F := F) P c))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slotM 0) (.remote (Dev.tc n : Thread nD τ) (slotM j.succ) (.dma (sendS j.succ)) hsc) (.dma (recvS j.succ)) hsrc hdst hsem) k) Q) := by
  subst hn
  rw [bigSepL_cons']
  unfold owing sendRes srcPts slotPts
  iintro ⟨#HR, ⟨%W, HO⟩, ⟨HtS, #HrS, HtR, #HrR, ⟨%f, Hd⟩, Hs⟩, Hrest⟩ Hk
  iapply (Rounds.wp_send_pointsTo 𝒱₀ ER (sched P) (c : Thread nD τ) none (κ₁ := κ (sendCell c j)) (κ₂ := κ (recvCell (tgt j c) j))
      (r₁ := 0) (r₂ := 0) (d₁ := 0) (d₂ := 0) (fd := f)
      (by rw [duties_send]; exact Finset.mem_singleton_self _) (by rw [duties_recv]; exact Finset.mem_singleton_self _)
      () () N (by exact credit_slot j.succ) (amount_send P c j 0) (amount_recv P (tgt j c) j 0) (sendDebt c js) rfl (W := W)
      (by rw [payload_send]; exact BI.Entails.refl _)
      (by
        rw [payload_recv]; unfold recvPay slotPts
        refine Entails.of_eq (pointsTo_congr fun i hi => ?_)
        have h := write_slot P (tgt j c) j f i hi
        rw [src_tgt j c] at h
        exact h)) $$ [Hs Hd HO HtS HtR]
  · isplitr; · iapply (inv_at P κ _ (Finset.mem_union_right _ (mem_send c j))); iexact HR
    isplitr; · iapply (inv_at P κ _ (Finset.mem_union_right _ (mem_recv (tgt j c) j))); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  isplitl [Hc]; · iexact Hc
  iexact Hrest

/-- The wait for copy number `j` to have left: the share of slot 0 back, the counter closed. -/
theorem wp_left (j : Fin 7) {s' : Shape} {e' : EltTy} {src : Memref sig .tc .vmem s' e'} {hsrc : src.view.WordExact}
    {hdst : (slotM 0).view.WordExact} {k : PUnit → Prog (TpuEff nD τ sig (Elt F) Λ₀ .tc) α} {Q : α → sProp 𝕄} :
    iprop(records P κ ∗ owing c 0 ∗ atPos ER (sendCell c j) 0 ∅ 0 ∗ cred (tallyAt (sendCell c j) () N))
      ⊢ iprop(((owing c 0 ∗ semVal (sendCell c j) 0 ∗ srcPts P c j)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS j.succ) src (slotM 0) hsrc hdst) k) Q) := by
  unfold owing
  iintro ⟨#HR, ⟨%W, HO⟩, Hat, Hc⟩ Hk
  iapply (Rounds.wp_wait_rest_token 𝒱₀ ER (sched P) (c : Thread nD τ) none (κ := κ (sendCell c j))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at P κ _ (Finset.mem_union_right _ (mem_send c j))); iexact HR
    isplitl [Hc]; · iexact Hc
    isplitl [HO]; · iexact HO
    isplitr; · rw [MayWait_zero]; iempintro
    iexact Hat
  iintro ⟨HO, Hat, -, Hpay⟩
  imod (Rounds.cell_close ER (sched P) (Set.mem_univ (κ (sendCell c j))) (fun h => h) (R := 0 + 1) (duties_later P (sendCell c j))) $$ [Hat] with Hz
  · isplitr; · iapply (inv_at P κ _ (Finset.mem_union_right _ (mem_send c j))); iexact HR
    iexact Hat
  iapply Hk
  isplitl [HO]; · iexists _; iexact HO
  isplitl [Hz]; · iexact Hz
  ihave Hp := (Entails.of_eq (rest_send P c j)) $$ Hpay
  iexact Hp

/-- The wait for the copy into slot `j + 1` to have landed: the slot with the sender's rows, the counter closed. -/
theorem wp_landed (j : Fin 7) {s' : Shape} {e' : EltTy} {src : Memref sig .tc .vmem s' e'} {hsrc : src.view.WordExact}
    {hdst : (slotM j.succ).view.WordExact} {k : PUnit → Prog (TpuEff nD τ sig (Elt F) Λ₀ .tc) α} {Q : α → sProp 𝕄} :
    iprop(records P κ ∗ owing c 0 ∗ atPos ER (recvCell c j) 0 ∅ 0 ∗ cred (tallyAt (recvCell c j) () N))
      ⊢ iprop(((owing c 0 ∗ semVal (recvCell c j) 0 ∗ slotPts c j.succ (gathered P c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS j.succ) src (slotM j.succ) hsrc hdst) k) Q) := by
  unfold owing
  iintro ⟨#HR, ⟨%W, HO⟩, Hat, Hc⟩ Hk
  iapply (Rounds.wp_wait_rest_token 𝒱₀ ER (sched P) (c : Thread nD τ) none (κ := κ (recvCell c j))
      (wpE_waitDma2_eq 𝒱₀ (c : Thread nD τ) none Set.univ) (Set.mem_univ _) () (O := 0) (W := W) (R := 0) (m := 0) (T := ∅)
      (by rw [Nat.zero_add, expect_recv, credit_slot])) $$ [Hc HO Hat]
  · isplitr; · iapply (inv_at P κ _ (Finset.mem_union_right _ (mem_recv c j))); iexact HR
    isplitl [Hc]; · rw [credit_slot]; iexact Hc
    isplitl [HO]; · iexact HO
    isplitr; · rw [MayWait_zero]; iempintro
    iexact Hat
  iintro ⟨HO, Hat, -, Hpay⟩
  imod (Rounds.cell_close ER (sched P) (Set.mem_univ (κ (recvCell c j))) (fun h => h) (R := 0 + 1) (duties_later P (recvCell c j))) $$ [Hat] with Hz
  · isplitr; · iapply (inv_at P κ _ (Finset.mem_union_right _ (mem_recv c j))); iexact HR
    iexact Hat
  iapply Hk
  isplitl [HO]; · iexists _; iexact HO
  isplitl [Hz]; · iexact Hz
  ihave Hp := (Entails.of_eq ((rest_recv P c j).trans (by unfold recvPay; rfl))) $$ Hpay
  iexact Hp

end Steps

end Cert.KernelIdeal.Reduce

end
-- ==== Proof.Body.lean ====
/-
The kernel at a grid point, on any device, one rule per effect in the order of the program.
-/
module

public import proofs.«01_k».proof.Proof.Talk
public import proofs.«01_k».proof.Proof.Gen.KernelIdeal.Skeleton

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- what every device accumulates in its slot 0
variable (P : Dev nD → CBuf F)

/-- A block of rows of `x` or `dy`. -/
abbrev Blk (F : FTy → Type) : Type := Vec F S256x2048 .bf16

/-- The first row of sums `g` after a block `x`, `dy`. -/
def stepG (x dy : Blk F) (g : Vec F S1x1x2048 .f32) : Vec F S1x1x2048 .f32 :=
  k0_pay1 (k0_pay5 x) (k0_pay6 dy) (k0_pay7 x) (k0_pay8 x) g
/-- The second row of sums `b` after a block `dy`. -/
def stepB (dy : Blk F) (b : Vec F S1x1x2048 .f32) : Vec F S1x1x2048 .f32 := k0_pay2 (k0_pay6 dy) b

theorem hz2 : (![0, 0] : Fin 2 → Nat) = fun _ => 0 := funext fun a => by fin_cases a <;> rfl
theorem hz3 : (![0, 0, 0] : Fin 3 → Nat) = fun _ => 0 := funext fun a => by fin_cases a <;> rfl

/-- Buffer `b` of device `c` whole, holding `f`. -/
abbrev has (c : Dev nD) (b : Ref sig .tc) (f : Buf (Elt F) ((c : Thread nD τ).loc b)) : sProp 𝕄 :=
  ((c : Thread nD τ).loc b) ↦{fullShare} f

theorem slotPts_congr (c : Dev nD) (k : Fin 8) (f f' : CBuf F) (h : ∀ i ∈ slotSet k, f i = f' i) :
    (slotPts c k f : sProp 𝕄) = slotPts c k f' := by
  unfold slotPts; exact pointsTo_congr h

section Steps

variable (c : Dev nD) {α : Type}

abbrev WP (Q : α → sProp 𝕄) (p : Prog (TpuEff nD τ sig (Elt F) Λ₀ .tc) α) : sProp 𝕄 :=
  wp frame (wpE (defs₀ (F := F)) 𝒱₀ (c : Thread nD τ) none) Set.univ p Q

/-- The zeros stored over slot 0. -/
theorem wp_clear {Q : α → sProp 𝕄} {k : PUnit → Prog (TpuEff nD τ sig (Elt F) Λ₀ .tc) α} {hl hx hm} (f : CBuf F) :
    (slotPts c 0 f : sProp 𝕄)
      ⊢ iprop((slotPts c 0 (rows zrow zrow) -∗ WP c Q (k ⟨⟩))
        -∗ WP c Q (.op (.load cM rect0.toLoadRect hl) fun _ => .op (.store cM rect0 (k0_pay4 (F := F)) Finset.univ hx hm) k)) := by
  unfold slotPts WP
  iintro Hs Hk
  iapply (wp_load 𝒱₀ (c : Thread nD τ) none Set.univ (m := cM) rect0_load) $$ Hs; iintro Hs
  iapply (wp_store 𝒱₀ (c : Thread nD τ) none Set.univ (m := cM) (r := rect0) (Mk := Finset.univ) rect0_sub) $$ Hs; iintro Hs
  iapply Hk
  ihave H := (Entails.of_eq (pointsTo_congr (write_zero f))) $$ Hs
  iexact H

/-- The first row of sums read, dead-read and stored. -/
theorem wp_rowG {Q : α → sProp 𝕄} {k : PUnit → Prog (TpuEff nD τ sig (Elt F) Λ₀ .tc) α} {hl hl' hx hm} (g b : Vec F S1x1x2048 .f32)
    (w : Vec F S1x1x2048 .f32 → Vec F S1x1x2048 .f32) :
    (slotPts c 0 (rows g b) : sProp 𝕄)
      ⊢ iprop((slotPts c 0 (rows (w g) b) -∗ WP c Q (k ⟨⟩))
        -∗ WP c Q (.op (.load cM rectG.toLoadRect hl) fun v => .op (.load cM rectG.toLoadRect hl') fun _ =>
            .op (.store cM rectG (w v) Finset.univ hx hm) k)) := by
  unfold slotPts WP
  iintro Hs Hk
  iapply (wp_load 𝒱₀ (c : Thread nD τ) none Set.univ (m := cM) rectG_load) $$ Hs; iintro Hs
  iapply (wp_load 𝒱₀ (c : Thread nD τ) none Set.univ (m := cM) rectG_load) $$ Hs; iintro Hs
  iapply (wp_store 𝒱₀ (c : Thread nD τ) none Set.univ (m := cM) (r := rectG) (Mk := Finset.univ) rectG_sub) $$ Hs; iintro Hs
  rw [read_g]
  iapply Hk
  ihave H := (Entails.of_eq (pointsTo_congr (write_g g b (w g)))) $$ Hs
  iexact H

/-- The second row of sums read, dead-read and stored. -/
theorem wp_rowB {Q : α → sProp 𝕄} {k : PUnit → Prog (TpuEff nD τ sig (Elt F) Λ₀ .tc) α} {hl hl' hx hm} (g b : Vec F S1x1x2048 .f32)
    (w : Vec F S1x1x2048 .f32 → Vec F S1x1x2048 .f32) :
    (slotPts c 0 (rows g b) : sProp 𝕄)
      ⊢ iprop((slotPts c 0 (rows g (w b)) -∗ WP c Q (k ⟨⟩))
        -∗ WP c Q (.op (.load cM rectB.toLoadRect hl) fun v => .op (.load cM rectB.toLoadRect hl') fun _ =>
            .op (.store cM rectB (w v) Finset.univ hx hm) k)) := by
  unfold slotPts WP
  iintro Hs Hk
  iapply (wp_load 𝒱₀ (c : Thread nD τ) none Set.univ (m := cM) rectB_load) $$ Hs; iintro Hs
  iapply (wp_load 𝒱₀ (c : Thread nD τ) none Set.univ (m := cM) rectB_load) $$ Hs; iintro Hs
  iapply (wp_store 𝒱₀ (c : Thread nD τ) none Set.univ (m := cM) (r := rectB) (Mk := Finset.univ) rectB_sub) $$ Hs; iintro Hs
  rw [read_b]
  iapply Hk
  ihave H := (Entails.of_eq (pointsTo_congr (write_b g b (w b)))) $$ Hs
  iexact H

end Steps

theorem readS_x0 (f : Blk F) : (Memref.whole cc0_stg0_0 : Memref sig .tc .vmem S256x2048 .bf16).view.readAt (Elt F)
    (Rect.unit (s := S256x2048) ![0, 0] S256x2048.size inb_S256x2048_S256x2048_0_0).toLoadRect f = f := Memref.readAt_unit_zero (Elt F) cc0_stg0_0 hz2 _ f
theorem readS_y0 (f : Blk F) : (Memref.whole cc0_stg1_0 : Memref sig .tc .vmem S256x2048 .bf16).view.readAt (Elt F)
    (Rect.unit (s := S256x2048) ![0, 0] S256x2048.size inb_S256x2048_S256x2048_0_0).toLoadRect f = f := Memref.readAt_unit_zero (Elt F) cc0_stg1_0 hz2 _ f
theorem readS_x1 (f : Blk F) : (Memref.whole cc0_stg0_1 : Memref sig .tc .vmem S256x2048 .bf16).view.readAt (Elt F)
    (Rect.unit (s := S256x2048) ![0, 0] S256x2048.size inb_S256x2048_S256x2048_0_0).toLoadRect f = f := Memref.readAt_unit_zero (Elt F) cc0_stg0_1 hz2 _ f
theorem readS_y1 (f : Blk F) : (Memref.whole cc0_stg1_1 : Memref sig .tc .vmem S256x2048 .bf16).view.readAt (Elt F)
    (Rect.unit (s := S256x2048) ![0, 0] S256x2048.size inb_S256x2048_S256x2048_0_0).toLoadRect f = f := Memref.readAt_unit_zero (Elt F) cc0_stg1_1 hz2 _ f
theorem readS_all (f : CBuf F) : cM.view.readAt (Elt F)
    (Rect.unit (s := S8x2x2048) ![0, 0, 0] S8x2x2048.size inb_S8x2x2048_S8x2x2048_0_0_0).toLoadRect f = f := Memref.readAt_unit_zero (Elt F) cc0_scratch0 hz3 _ f
theorem write_out (f w : Vec F S2x2048 .f32) : ((Memref.whole cc0_stg2_0 : Memref sig .tc .vmem S2x2048 .f32).access
    (Rect.unit (s := S2x2048) ![0, 0] S2x2048.size inb_S2x2048_S2x2048_0_0) : View sig .tc _ _ _).write (Elt F) f w Finset.univ = w :=
  Memref.write_access_unit_zero_univ (Elt F) cc0_stg2_0 hz2 _ f w

/-- The kernel at point 0: the sums cleared, the seven units paid, the first block added. -/
theorem body_first (κ : GSem nD τ sig → ℕ) (c : Dev nD) (i : grid0.Coords) (h1 : k0_cond1 i = 1#1) (h2 : ¬ k0_cond2 i = 1#1)
    (x dy : Blk F) (f : CBuf F) {Kt : PUnit → sProp 𝕄} {h5 h6 h7 h8} :
    iprop(records P κ ∗ owing c (O₀ c) ∗ bigSepL all (sigRes (F := F) c) ∗ slotPts c 0 f
        ∗ has c cc0_stg0_0 x ∗ has c cc0_stg1_0 dy)
      ⊢ iprop(((owing c (sendDebt c all) ∗ slotPts c 0 (rows (stepG x dy zrow) (stepB dy zrow))
            ∗ has c cc0_stg0_0 x ∗ has c cc0_stg1_0 dy) -∗ Kt ⟨⟩)
        -∗ wp frame (wpE (defs₀ (F := F)) 𝒱₀ (c : Thread nD τ) none) Set.univ
          (cc0_body i (Memref.whole main_v11) (Memref.isWhole_whole _) (Memref.whole cc0_stg0_0) h5 (Memref.whole cc0_stg1_0) h6
            (Memref.whole cc0_stg2_0) h7 cM h8 cc0_scratch1 cc0_scratch2) Kt) := by
  simp only [cc0_body_eq_skeleton]; unfold cc0_body_skel
  simp only [k0_part23_eq_skeleton]; unfold k0_part23_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [dif_pos h1, dif_neg h2, semSignalWord, semWaitWord, Prog.lift, Prog.bind_op, Prog.bind_ret, Prog.pure_eq_ret, wp_deviceId]
  iintro ⟨#HR, HO, Hsig, Hs, Hx, Hy⟩ Hk
  iapply (wp_clear c f) $$ Hs; iintro Hs
  iapply (wp_sig P κ c 0 [1, 2, 3, 4, 5, 6] _ (dev1_eq c)) $$ [HO Hsig]
  · isplitr; · iexact HR
    isplitl [HO]; · iexact HO
    iexact Hsig
  iintro ⟨HO, Hsig⟩
  iapply (wp_sig P κ c 1 [2, 3, 4, 5, 6] _ (dev2_eq c)) $$ [HO Hsig]
  · isplitr; · iexact HR
    isplitl [HO]; · iexact HO
    iexact Hsig
  iintro ⟨HO, Hsig⟩
  iapply (wp_sig P κ c 2 [3, 4, 5, 6] _ (dev3_eq c)) $$ [HO Hsig]
  · isplitr; · iexact HR
    isplitl [HO]; · iexact HO
    iexact Hsig
  iintro ⟨HO, Hsig⟩
  iapply (wp_sig P κ c 3 [4, 5, 6] _ (dev4_eq c)) $$ [HO Hsig]
  · isplitr; · iexact HR
    isplitl [HO]; · iexact HO
    iexact Hsig
  iintro ⟨HO, Hsig⟩
  iapply (wp_sig P κ c 4 [5, 6] _ (dev5_eq c)) $$ [HO Hsig]
  · isplitr; · iexact HR
    isplitl [HO]; · iexact HO
    iexact Hsig
  iintro ⟨HO, Hsig⟩
  iapply (wp_sig P κ c 5 [6] _ (dev6_eq c)) $$ [HO Hsig]
  · isplitr; · iexact HR
    isplitl [HO]; · iexact HO
    iexact Hsig
  iintro ⟨HO, Hsig⟩
  iapply (wp_sig P κ c 6 [] _ (dev7_eq c)) $$ [HO Hsig]
  · isplitr; · iexact HR
    isplitl [HO]; · iexact HO
    iexact Hsig
  iintro ⟨HO, Hsig⟩
  iapply (wp_load 𝒱₀ (c : Thread nD τ) none Set.univ (m := Memref.whole cc0_stg0_0) (Finset.subset_univ _)) $$ Hx; iintro Hx
  rw [readS_x0]
  iapply (wp_load 𝒱₀ (c : Thread nD τ) none Set.univ (m := Memref.whole cc0_stg1_0) (Finset.subset_univ _)) $$ Hy; iintro Hy
  rw [readS_y0]
  iapply (wp_rowG c zrow zrow (stepG x dy)) $$ Hs; iintro Hs
  iapply (wp_rowB c (stepG x dy zrow) zrow (stepB dy)) $$ Hs; iintro Hs
  unfold WP; rw [wp_ret]; imodintro
  iapply Hk
  isplitl [HO]; · iexact HO
  isplitl [Hs]; · iexact Hs
  isplitl [Hx] <;> iassumption

/-! ## The last point -/

/-- What copy number `j` needs of what its device holds from the launch on. -/
def sendTok (c : Dev nD) (j : Fin 7) : sProp 𝕄 :=
  iprop(dutyTok ER (sendCell c j) 0 0 ∗ reached ER (sendCell c j) 0 ∗ dutyTok ER (recvCell (tgt j c) j) 0 0)
/-- What the two waits of number `j` need. -/
def posRes (c : Dev nD) (j : Fin 7) : sProp 𝕄 :=
  iprop(atPos ER (sendCell c j) 0 ∅ 0 ∗ atPos ER (recvCell c j) 0 ∅ 0 ∗ cred (tallyAt (recvCell c j) () N))
/-- What they give. -/
def doneRes (c : Dev nD) (j : Fin 7) : sProp 𝕄 :=
  iprop((semVal (sendCell c j) 0 ∗ semVal (recvCell c j) 0) ∗ srcPts P c j ∗ slotPts c j.succ (gathered P c))

theorem bigSep_eight (Φ : Fin 8 → sProp 𝕄) : bigSep Finset.univ Φ = iprop(Φ 0 ∗ bigSepL all fun j => Φ j.succ) := by
  rw [bigSep_univ_eq_bigSepL [(0 : Fin 8), 1, 2, 3, 4, 5, 6, 7] (by decide) (by decide), bigSepL_cons', ← bigSepL_map Fin.succ]
  rfl
theorem bigSepL_all (Φ : Fin 7 → sProp 𝕄) : bigSepL all Φ = bigSep Finset.univ Φ :=
  (bigSep_univ_eq_bigSepL all (by decide) (by decide) Φ).symm
theorem bigSepL_sep (Φ Ψ : Fin 7 → sProp 𝕄) : bigSepL all (fun j => iprop(Φ j ∗ Ψ j)) = iprop(bigSepL all Φ ∗ bigSepL all Ψ) := by
  rw [bigSepL_all, bigSepL_all, bigSepL_all, bigSep_sep']

/-- The share of slot 0 kept while the copies run. -/
def keep (c : Dev nD) : sProp 𝕄 :=
  (slotM 0).view.loc (c : Thread nD τ) ↦[(slotM 0).view.set]{ShareLeaves.leaf 3 fullShare 0} P c

/-- Slot 0 cut into the shares the copies read. -/
theorem cut_slot (c : Dev nD) : (slotPts c 0 (P c) : sProp 𝕄) = iprop(keep P c ∗ bigSepL all (srcPts P c)) := by
  have h := ShareLeaves.pointsTo_leaves (Ix := Unit) (Name := ℕ) (U := UU) (Lvl := ℕ) (ℓ := (c : Thread nD τ).loc cc0_scratch0)
    (slotSet 0) (P c) 3 fullShare
  exact h.trans (bigSep_eight fun i => ((c : Thread nD τ).loc cc0_scratch0 ↦[slotSet 0]{ShareLeaves.leaf 3 fullShare i} P c))

/-- The whole landing buffer, slot by slot. -/
theorem has_slots (c : Dev nD) (f : CBuf F) : (has c cc0_scratch0 f : sProp 𝕄) = iprop(slotPts c 0 f ∗ bigSepL all fun j => slotPts c j.succ f) := by
  unfold has
  rw [← bigSep_eight fun k => slotPts c k f]
  have h := pointsTo_biUnion (Ix := Unit) (Name := ℕ) (U := UU) (Lvl := ℕ) (ℓ := (c : Thread nD τ).loc cc0_scratch0) (q := fullShare) (f := f)
    (Finset.univ : Finset (Fin 8)) slotSet (fun k _ k' _ h => slots_disjoint k k' h)
  rw [slots_cover] at h
  exact h

theorem send_ready (c : Dev nD) :
    iprop(bigSep Finset.univ (barPay (F := F) c) ∗ bigSepL all (sendTok (F := F) c) ∗ bigSepL all (srcPts P c)) ⊢ (bigSepL all (sendRes P c) : sProp 𝕄) := by
  rw [← bigSepL_all, ← bigSepL_sep, ← bigSepL_sep]
  refine bigSepL_mono fun j _ => ?_
  unfold barPay sendTok sendRes
  iintro ⟨⟨Hf, #Hr⟩, ⟨Ht, #Hs, Ht'⟩, Hp⟩
  isplitl [Ht]; · iexact Ht
  isplitr; · iexact Hs
  isplitl [Ht']; · iexact Ht'
  isplitr; · iexact Hr
  isplitl [Hf] <;> iassumption

theorem all_done (c : Dev nD) :
    iprop(keep P c ∗ bigSepL all (doneRes P c))
      ⊢ iprop(has c cc0_scratch0 (gathered P c) ∗ bigSepL all fun j => iprop(semVal (sendCell c j) 0 ∗ semVal (recvCell c j) 0) : sProp 𝕄) := by
  unfold doneRes
  rw [bigSepL_sep, bigSepL_sep (srcPts P c), has_slots, slotPts_congr c 0 _ _ (fun i hi => (gathered_zero P c i hi).symm), cut_slot]
  iintro ⟨Hk, Hz, Hs, Hd⟩
  isplitl [Hk Hs Hd]
  · isplitl [Hk Hs]; · isplitl [Hk] <;> iassumption
    iexact Hd
  iexact Hz

/-- The two waits of number `j`. -/
theorem wp_pair (κ : GSem nD τ sig → ℕ) (c : Dev nD) (j : Fin 7) (js : List (Fin 7)) {α : Type} {Q : α → sProp 𝕄}
    {k : PUnit → Prog (TpuEff nD τ sig (Elt F) Λ₀ .tc) α} {hsrc hdst hsrc' hdst'} :
    iprop(records P κ ∗ owing c 0 ∗ cred (tallyAt (sendCell c j) () N) ∗ bigSepL (j :: js) (posRes (F := F) c))
      ⊢ iprop(((owing c 0 ∗ doneRes P c j ∗ bigSepL js (posRes (F := F) c)) -∗ WP c Q (k ⟨⟩))
        -∗ WP c Q (.op (.waitDma2 (sendS j.succ) (slotM j.succ) (slotM 0) hsrc hdst) fun _ =>
            .op (.waitDma2 (recvS j.succ) (slotM 0) (slotM j.succ) hsrc' hdst') k)) := by
  rw [bigSepL_cons']
  unfold posRes doneRes WP
  iintro ⟨#HR, HO, Hc, ⟨Hs, Hr, Hc'⟩, Hrest⟩ Hk
  iapply (wp_left P κ c j) $$ [HO Hc Hs]
  · isplitr; · iexact HR
    isplitl [HO]; · iexact HO
    isplitl [Hs] <;> iassumption
  iintro ⟨HO, HzS, Hp⟩
  iapply (wp_landed P κ c j) $$ [HO Hc' Hr]
  · isplitr; · iexact HR
    isplitl [HO]; · iexact HO
    isplitl [Hr] <;> iassumption
  iintro ⟨HO, HzR, Hd⟩
  iapply Hk
  isplitl [HO]; · iexact HO
  isplitl [HzS HzR Hp Hd]
  · isplitl [HzS HzR]; · isplitl [HzS] <;> iassumption
    isplitl [Hp] <;> iassumption
  iexact Hrest

/-- The kernel at point 1: the second block added, the seven units received, the copies sent and received, the slots summed. -/
theorem body_last (κ : GSem nD τ sig → ℕ) (c : Dev nD) (i : grid0.Coords) (h1 : ¬ k0_cond1 i = 1#1) (h2 : k0_cond2 i = 1#1)
    (x dy : Blk F) (g b : Vec F S1x1x2048 .f32) (hP : rows (stepG x dy g) (stepB dy b) = P c) (o : Vec F S2x2048 .f32)
    {Kt : PUnit → sProp 𝕄} {h5 h6 h7 h8} :
    iprop(records P κ ∗ owing c (sendDebt c all) ∗ (atPos ER (barCell c) 0 ∅ 0 ∗ cred (tallyAt (barCell c) () 7))
        ∗ bigSepL all (sendTok (F := F) c) ∗ bigSepL all (posRes (F := F) c) ∗ slotPts c 0 (rows g b)
        ∗ has c cc0_stg0_1 x ∗ has c cc0_stg1_1 dy ∗ has c cc0_stg2_0 o)
      ⊢ iprop(((owing c 0 ∗ semVal (barCell c) 0 ∗ (bigSepL all fun j => iprop(semVal (sendCell c j) 0 ∗ semVal (recvCell c j) 0))
            ∗ has c cc0_scratch0 (gathered P c)
            ∗ has c cc0_stg0_1 x ∗ has c cc0_stg1_1 dy ∗ has c cc0_stg2_0 (k0_pay3 (gathered P c))) -∗ Kt ⟨⟩)
        -∗ wp frame (wpE (defs₀ (F := F)) 𝒱₀ (c : Thread nD τ) none) Set.univ
          (cc0_body i (Memref.whole main_v11) (Memref.isWhole_whole _) (Memref.whole cc0_stg0_1) h5 (Memref.whole cc0_stg1_1) h6
            (Memref.whole cc0_stg2_0) h7 cM h8 cc0_scratch1 cc0_scratch2) Kt) := by
  simp only [cc0_body_eq_skeleton]; unfold cc0_body_skel
  simp only [k0_part23_eq_skeleton]; unfold k0_part23_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part9_skel k0_part10_skel k0_part11_skel k0_part12_skel k0_part13_skel k0_part14_skel k0_part15_skel k0_part16_skel k0_part17_skel k0_part18_skel k0_part19_skel k0_part20_skel k0_part21_skel k0_part22_skel
  simp only [dif_neg h1, dif_pos h2, semSignalWord, semWaitWord, Prog.lift, Prog.bind_op, Prog.bind_ret, Prog.pure_eq_ret, wp_deviceId]
  iintro ⟨#HR, HO, ⟨Hat, Hcb⟩, Htok, Hpos, Hs, Hx, Hy, Ho⟩ Hk
  iapply (wp_load 𝒱₀ (c : Thread nD τ) none Set.univ (m := Memref.whole cc0_stg0_1) (Finset.subset_univ _)) $$ Hx; iintro Hx
  rw [readS_x1]
  iapply (wp_load 𝒱₀ (c : Thread nD τ) none Set.univ (m := Memref.whole cc0_stg1_1) (Finset.subset_univ _)) $$ Hy; iintro Hy
  rw [readS_y1]
  iapply (wp_rowG c g b (stepG x dy)) $$ Hs; iintro Hs
  iapply (wp_rowB c (stepG x dy g) b (stepB dy)) $$ Hs; iintro Hs
  rw [hP]
  iapply (wp_bar P κ c) $$ [HO Hat Hcb]
  · isplitr; · iexact HR
    isplitl [HO]; · iexact HO
    isplitl [Hat] <;> iassumption
  iintro ⟨HO, HzB, Hbar⟩
  ihave Hcut := (Entails.of_eq (cut_slot P c)) $$ Hs
  icases Hcut with ⟨Hkeep, Hsrc⟩
  ihave Hsend := (send_ready P c) $$ [Hbar Htok Hsrc]
  · isplitl [Hbar]; · iexact Hbar
    isplitl [Htok] <;> iassumption
  iapply (wp_copy P κ c 0 [1, 2, 3, 4, 5, 6] _ (dev8_eq c)) $$ [HO Hsend]
  · isplitr; · iexact HR
    isplitl [HO]; · iexact HO
    iexact Hsend
  iintro ⟨HO, Hc0, Hsend⟩
  iapply (wp_copy P κ c 1 [2, 3, 4, 5, 6] _ (dev9_eq c)) $$ [HO Hsend]
  · isplitr; · iexact HR
    isplitl [HO]; · iexact HO
    iexact Hsend
  iintro ⟨HO, Hc1, Hsend⟩
  iapply (wp_copy P κ c 2 [3, 4, 5, 6] _ (dev10_eq c)) $$ [HO Hsend]
  · isplitr; · iexact HR
    isplitl [HO]; · iexact HO
    iexact Hsend
  iintro ⟨HO, Hc2, Hsend⟩
  iapply (wp_copy P κ c 3 [4, 5, 6] _ (dev11_eq c)) $$ [HO Hsend]
  · isplitr; · iexact HR
    isplitl [HO]; · iexact HO
    iexact Hsend
  iintro ⟨HO, Hc3, Hsend⟩
  iapply (wp_copy P κ c 4 [5, 6] _ (dev12_eq c)) $$ [HO Hsend]
  · isplitr; · iexact HR
    isplitl [HO]; · iexact HO
    iexact Hsend
  iintro ⟨HO, Hc4, Hsend⟩
  iapply (wp_copy P κ c 5 [6] _ (dev13_eq c)) $$ [HO Hsend]
  · isplitr; · iexact HR
    isplitl [HO]; · iexact HO
    iexact Hsend
  iintro ⟨HO, Hc5, Hsend⟩
  iapply (wp_copy P κ c 6 [] _ (dev14_eq c)) $$ [HO Hsend]
  · isplitr; · iexact HR
    isplitl [HO]; · iexact HO
    iexact Hsend
  iintro ⟨HO, Hc6, Hsend⟩
  iapply (wp_pair P κ c 0 [1, 2, 3, 4, 5, 6]) $$ [HO Hc0 Hpos]
  · isplitr; · iexact HR
    isplitl [HO]; · iexact HO
    isplitl [Hc0] <;> iassumption
  iintro ⟨HO, Hd0, Hpos⟩
  iapply (wp_pair P κ c 1 [2, 3, 4, 5, 6]) $$ [HO Hc1 Hpos]
  · isplitr; · iexact HR
    isplitl [HO]; · iexact HO
    isplitl [Hc1] <;> iassumption
  iintro ⟨HO, Hd1, Hpos⟩
  iapply (wp_pair P κ c 2 [3, 4, 5, 6]) $$ [HO Hc2 Hpos]
  · isplitr; · iexact HR
    isplitl [HO]; · iexact HO
    isplitl [Hc2] <;> iassumption
  iintro ⟨HO, Hd2, Hpos⟩
  iapply (wp_pair P κ c 3 [4, 5, 6]) $$ [HO Hc3 Hpos]
  · isplitr; · iexact HR
    isplitl [HO]; · iexact HO
    isplitl [Hc3] <;> iassumption
  iintro ⟨HO, Hd3, Hpos⟩
  iapply (wp_pair P κ c 4 [5, 6]) $$ [HO Hc4 Hpos]
  · isplitr; · iexact HR
    isplitl [HO]; · iexact HO
    isplitl [Hc4] <;> iassumption
  iintro ⟨HO, Hd4, Hpos⟩
  iapply (wp_pair P κ c 5 [6]) $$ [HO Hc5 Hpos]
  · isplitr; · iexact HR
    isplitl [HO]; · iexact HO
    isplitl [Hc5] <;> iassumption
  iintro ⟨HO, Hd5, Hpos⟩
  iapply (wp_pair P κ c 6 []) $$ [HO Hc6 Hpos]
  · isplitr; · iexact HR
    isplitl [HO]; · iexact HO
    isplitl [Hc6] <;> iassumption
  iintro ⟨HO, Hd6, Hpos⟩
  ihave Hd := (all_done P c) $$ [Hkeep Hd0 Hd1 Hd2 Hd3 Hd4 Hd5 Hd6]
  · isplitl [Hkeep]; · iexact Hkeep
    rw [bigSepL_cons', bigSepL_cons', bigSepL_cons', bigSepL_cons', bigSepL_cons', bigSepL_cons', bigSepL_singleton]
    isplitl [Hd0]; · iexact Hd0
    isplitl [Hd1]; · iexact Hd1
    isplitl [Hd2]; · iexact Hd2
    isplitl [Hd3]; · iexact Hd3
    isplitl [Hd4]; · iexact Hd4
    isplitl [Hd5] <;> iassumption
  icases Hd with ⟨Hs, Hz⟩
  unfold WP
  iapply (wp_load 𝒱₀ (c : Thread nD τ) none Set.univ (m := cM) (Finset.subset_univ _)) $$ Hs; iintro Hs
  rw [readS_all]
  iapply (wp_load 𝒱₀ (c : Thread nD τ) none Set.univ (m := Memref.whole cc0_stg2_0) (Finset.subset_univ _)) $$ Ho; iintro Ho
  iapply (wp_store 𝒱₀ (c : Thread nD τ) none Set.univ (m := Memref.whole cc0_stg2_0) (r := Rect.unit (s := S2x2048) ![0, 0] S2x2048.size inb_S2x2048_S2x2048_0_0)
    (Mk := Finset.univ) (Finset.subset_univ _)) $$ Ho; iintro Ho
  rw [write_out, wp_ret]; imodintro
  iapply Hk
  isplitl [HO]; · iexact HO
  isplitl [HzB]; · iexact HzB
  isplitl [Hz]; · iexact Hz
  isplitl [Hs]; · iexact Hs
  isplitl [Hx]; · iexact Hx
  isplitl [Hy] <;> iassumption

end Cert.KernelIdeal.Reduce

end
-- ==== Proof.Point.lean ====
/-
The kernel's two grid points as the pipeline runs them: which rows of `x` and `dy` a device's blocks are, what the
staging buffers and the landing buffer hold between the points, and the kernel's step at each point.
-/
module

public import proofs.«01_k».proof.Proof.Body
public import proofs.«01_k».proof.Proof.Gen.KernelIdeal.Regions

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The table: the number of the device among the four that share its rows of `x` -/

/-- Device `c`'s entry of the table. -/
def word (c : Dev nD) : BitVec 32 := BitVec.ofNat 32 (c.val % 4)

/-- The table. -/
def tab (c : Dev nD) : pre0.Contents (Elt F) :=
  fun | 0 => (fun _ => word c : (main_v11 : Ref sig .tc).ty.Contents (Elt F)) | ⟨_ + 1, h⟩ => absurd h (Nat.not_lt.2 (Nat.le_add_left _ _))

/-- The block of `x` and `dy` of device `c` at a grid point. -/
def bix (c : Dev nD) (i : grid0.Coords) : Fin 2 → Nat :=
  ![(Scalar.addi (Scalar.muli (word c) 2#32) (BitVec.ofNat 32 (i 0).val)).toNat, 0]

theorem bix_row (c : Dev nD) (i : grid0.Coords) : bix c i 0 = 2 * (c.val % 4) + (i 0).val := by
  revert c i; decide +kernel

theorem bix_inb (c : Dev nD) (i : grid0.Coords) : ∀ a, (bix c i a + 1) * S256x2048.size a ≤ S2048x2048.size a := by
  revert c i; decide +kernel

theorem bix_words (c : Dev nD) (i : grid0.Coords) :
    EltTy.bits .bf16 = 32 ∨ (Rect.block (s := S2048x2048) S256x2048.size (bix c i) (bix_inb c i)).WholeWords (EltTy.packing .bf16) := by
  revert c i; decide +kernel

theorem ok_tab (c : Dev nD) : ok0 (F := F) (tab c) :=
  ⟨fun i => ⟨bix_inb c i, bix_words c i⟩, fun i => ⟨bix_inb c i, bix_words c i⟩⟩

/-- The table as the pipeline takes it. -/
abbrev adm (c : Dev nD) : (p : Fin 1) → (pcfgs (F := F) p).Adm := fun _ => ⟨tab c, ok_tab c⟩

theorem word_eq : ∀ c : Dev nD, 2#32 * IntOp.remui .host (IntOp.divui .host (Dev.word c) 2#32) 2#32
    + IntOp.remui .host (IntOp.divui .host (Dev.word c) 1#32) 2#32 = word c := by decide +kernel

variable (m : (ℓ : Loc nD τ sig) → Buf (Elt F) ℓ)

/-- The host operations leave it in the table's buffer. -/
theorem V1_tab (c : Dev nD) : V1 m c main_v11 = (fun _ => word c : (main_v11 : Ref sig .tc).ty.Contents (Elt F)) := by
  show StableHlo.after (hostOps0 c) (V0 m c) (Proc.devRef .tc main_v11) = _
  after_results
  funext i
  exact word_eq c

/-! ## The blocks and the sums -/

/-- Device `c`'s block of `x` at a grid point, and its block of `dy`. -/
def xblk (c : Dev nD) (t : Fin grid0.N) : Blk F := (((cfg0 (adm (F := F) c 0)).win 0).blk t).view.read (Elt F) (V1 m c main_arg0)
def yblk (c : Dev nD) (t : Fin grid0.N) : Blk F := (((cfg0 (adm (F := F) c 0)).win 1).blk t).view.read (Elt F) (V1 m c main_arg1)

/-- The two rows of sums after the first point. -/
def sumG (c : Dev nD) : Vec F S1x1x2048 .f32 := stepG (xblk m c t0_0) (yblk m c t0_0) zrow
def sumB (c : Dev nD) : Vec F S1x1x2048 .f32 := stepB (yblk m c t0_0) zrow

/-- What a device has in slot 0 when it starts its copies. -/
def part (c : Dev nD) : CBuf F := rows (stepG (xblk m c t0_1) (yblk m c t0_1) (sumG m c)) (stepB (yblk m c t0_1) (sumB m c))

/-- The kernel's result on device `c`. -/
def result (c : Dev nD) : (main_v12 : Ref sig .tc).ty.Contents (Elt F) := k0_pay3 (gathered (part m) c)

/-! ## What is held between the points -/

/-- A duty of the barrier cell of `tgt j c`, and that the landing cell for its slot is ready. -/
def sigTok (c : Dev nD) (j : Fin 7) : sProp 𝕄 :=
  iprop(dutyTok ER (barCell (tgt j c)) 0 j.rev ∗ reached ER (recvCell c j.rev) 0)

/-- What waits for the second point. -/
def late (c : Dev nD) : sProp 𝕄 :=
  iprop((atPos ER (barCell c) 0 ∅ 0 ∗ cred (tallyAt (barCell c) () 7))
    ∗ bigSepL all (sendTok (F := F) c) ∗ bigSepL all (posRes (F := F) c))

/-- Before the first point. -/
def start (c : Dev nD) : sProp 𝕄 :=
  iprop((∃ κ, records (part m) κ) ∗ bigSepL all (sigTok (F := F) c) ∗ late (F := F) c ∗ ∃ f, has c cc0_scratch0 f)
/-- Between the two. -/
def mid (c : Dev nD) : sProp 𝕄 :=
  iprop((∃ κ, records (part m) κ) ∗ late (F := F) c ∗ slotPts c 0 (rows (sumG m c) (sumB m c)))
/-- After the second. -/
def fin (c : Dev nD) : sProp 𝕄 :=
  iprop(semVal (barCell c) 0 ∗ (bigSepL all fun j => iprop(semVal (sendCell c j) 0 ∗ semVal (recvCell c j) 0))
    ∗ has c cc0_scratch0 (gathered (part m) c))

def inv (c : Dev nD) : ℕ → sProp 𝕄
  | 0 => start m c
  | 1 => mid m c
  | _ + 2 => fin m c
def debt (c : Dev nD) : ℕ → CellTallies nD τ sig Unit
  | 0 => O₀ c
  | 1 => sendDebt c all
  | _ + 2 => 0

/-- The proof data of the pipeline on device `c`. -/
def dat (c : Dev nD) : Dat τ (Elt F) Unit ℕ UU ℕ (cfg0 (adm (F := F) c 0)) c where
  A := fun | 0 => V1 m c main_arg0 | 1 => V1 m c main_arg1 | 2 => V1 m c main_v12 | ⟨_ + 3, h⟩ => absurd h (Nat.not_lt.2 (Nat.le_add_left _ _))
  after := fun | 0 => xblk m c | 1 => yblk m c | 2 => fun _ => result m c | ⟨_ + 3, h⟩ => absurd h (Nat.not_lt.2 (Nat.le_add_left _ _))
  Φ t := inv m c t.val
  q _ := fullShare
  owed t := debt c t.val

abbrev pdats : (p : Fin 1) → (c : Dev nD) → Dat τ (Elt F) Unit ℕ UU ℕ (Pipeline.pinD (pcfgs (F := F)) adm c p) c
  | 0 => dat m
  | ⟨_ + 1, h⟩ => absurd h (Nat.not_lt.2 (Nat.le_add_left _ _))

theorem sig_ready (c : Dev nD) (f : CBuf F) :
    iprop(bigSepL all (sigTok (F := F) c) ∗ bigSepL all fun j => slotPts c j.succ f) ⊢ (bigSepL all (sigRes (F := F) c) : sProp 𝕄) := by
  have hr : bigSepL all (fun j => slotPts (F := F) c j.succ f) = bigSepL all fun j => slotPts c j.rev.succ f := by
    rw [bigSepL_all, bigSepL_all]; exact bigSep_univ_equiv Fin.revPerm fun j => slotPts (F := F) c j.succ f
  rw [hr, ← bigSepL_sep]
  refine bigSepL_mono fun j _ => ?_
  unfold sigTok sigRes
  iintro ⟨⟨Ht, Hr⟩, Hs⟩
  isplitl [Ht]; · iexact Ht
  isplitl [Hs]; · iexists f; iexact Hs
  iexact Hr

theorem owing_of (c : Dev nD) (t : Fin (grid0.N + 1)) : ((dat m c).owesAt () t : sProp 𝕄) = owing c (debt c t.val) := by
  have h1 : ((dat m c).owesAt () t : sProp 𝕄) ⊢ owing c (debt c t.val) := by
    unfold Dat.owesAt Pipeline.owesWithin owing
    iintro ⟨%W, -, H⟩; iexists W; iexact H
  have h2 : owing c (debt c t.val) ⊢ ((dat m c).owesAt () t : sProp 𝕄) := by
    unfold Dat.owesAt Pipeline.owesWithin owing Dat.bound
    iintro ⟨%W, H⟩; iexists W; isplitr
    · ipureintro; exact fun _ _ => Or.inl trivial
    iexact H
  exact BI.Entails.antisymm h1 h2

/-- The two points' blocks differ. -/
theorem moves (c : Dev nD) : bix c (grid0.coords t0_1) ≠ bix c (grid0.coords t0_0) := fun h => by
  have h0 := congrFun h 0
  rw [bix_row, bix_row] at h0
  revert h0; decide +revert

theorem fetch_last0 (c : Dev nD) : ((cfg0 (adm (F := F) c 0)).win 0).fetch t0_1 = true := by
  have hd : decide (∃ h : 0 < t0_1.val, bix c (grid0.coords t0_1) ≠ bix c (grid0.coords ⟨t0_1.val - 1, by decide⟩)) = true :=
    decide_eq_true ⟨by decide, moves c⟩
  show (true && (decide (t0_1.val = 0) || _)) = true
  rw [Bool.and_eq_true, Bool.or_eq_true]
  exact ⟨rfl, Or.inr hd⟩
theorem fetch_last1 (c : Dev nD) : ((cfg0 (adm (F := F) c 0)).win 1).fetch t0_1 = true := by
  have hd : decide (∃ h : 0 < t0_1.val, bix c (grid0.coords t0_1) ≠ bix c (grid0.coords ⟨t0_1.val - 1, by decide⟩)) = true :=
    decide_eq_true ⟨by decide, moves c⟩
  show (true && (decide (t0_1.val = 0) || _)) = true
  rw [Bool.and_eq_true, Bool.or_eq_true]
  exact ⟨rfl, Or.inr hd⟩

abbrev slots0 : (w : Fin 3) → Fin (spec0 w).nbuf :=
  fun | 0 => (0 : Fin 2) | 1 => (0 : Fin 2) | 2 => (0 : Fin 1) | ⟨_ + 3, h⟩ => absurd h (Nat.not_lt.2 (Nat.le_add_left _ _))
abbrev slots1 : (w : Fin 3) → Fin (spec0 w).nbuf :=
  fun | 0 => (1 : Fin 2) | 1 => (1 : Fin 2) | 2 => (0 : Fin 1) | ⟨_ + 3, h⟩ => absurd h (Nat.not_lt.2 (Nat.le_add_left _ _))

theorem slot_first (c : Dev nD) : (cfg0 (adm (F := F) c 0)).slots t0_0 = slots0 := by
  funext w; fin_cases w <;> rfl
theorem slot_last (c : Dev nD) : (cfg0 (adm (F := F) c 0)).slots t0_1 = slots1 := by
  funext w; fin_cases w
  · exact if_pos (fetch_last0 c)
  · exact if_pos (fetch_last1 c)
  · rfl

theorem before_first (c : Dev nD) :
    (∀ d, (dat m c).before 0 t0_0 d = xblk m c t0_0) ∧ (∀ d, (dat m c).before 1 t0_0 d = yblk m c t0_0)
      ∧ ∀ d, (dat m c).before 2 t0_0 d = d := ⟨fun d => rfl, fun d => rfl, fun d => rfl⟩
theorem before_last (c : Dev nD) :
    (∀ d, (dat m c).before 0 t0_1 d = xblk m c t0_1) ∧ (∀ d, (dat m c).before 1 t0_1 d = yblk m c t0_1) :=
  ⟨fun d => if_pos (fetch_last0 c), fun d => if_pos (fetch_last1 c)⟩

end Cert.KernelIdeal.Reduce

end
-- ==== Proof.Steps.lean ====
/-
The kernel's step at each of the two grid points, as the pipeline asks for it.
-/
module

public import proofs.«01_k».proof.Proof.Point

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A whole buffer owned at contents `X`. -/
theorem owns_has (c : Dev nD) (b : Ref sig .tc) (X : b.ty.Contents (Elt F)) :
    (owns (c : Thread nD τ) (Memref.whole b) fullShare X : sProp 𝕄) = has c b X := by
  rw [owns_whole_eq]
  have h1 : iprop(∃ f : Buf (Elt F) ((c : Thread nD τ).loc b), ⌜f = X⌝ ∗ ((c : Thread nD τ).loc b ↦{fullShare} f) : sProp 𝕄) ⊢ has c b X := by
    iintro ⟨%f, %h, H⟩; subst h; iexact H
  have h2 : has c b X ⊢ iprop(∃ f : Buf (Elt F) ((c : Thread nD τ).loc b), ⌜f = X⌝ ∗ ((c : Thread nD τ).loc b ↦{fullShare} f) : sProp 𝕄) := by
    iintro H; iexists X; isplitr
    · ipureintro; rfl
    iexact H
  exact BI.Entails.antisymm h1 h2

theorem first_step (c : Dev nD) (R : sProp 𝕄) {h5 h6 h7 h8} :
    iprop(start m c ∗ owing c (O₀ c) ∗ has c cc0_stg0_0 (xblk m c t0_0) ∗ has c cc0_stg1_0 (yblk m c t0_0) ∗ R)
      ⊢ wp frame (wpE (defs₀ (F := F)) 𝒱₀ (c : Thread nD τ) none) Set.univ
          (cc0_body (grid0.coords t0_0) (Memref.whole main_v11) (Memref.isWhole_whole _) (Memref.whole cc0_stg0_0) h5
            (Memref.whole cc0_stg1_0) h6 (Memref.whole cc0_stg2_0) h7 cM h8 cc0_scratch1 cc0_scratch2)
          fun _ => iprop(mid m c ∗ owing c (sendDebt c all) ∗ has c cc0_stg0_0 (xblk m c t0_0) ∗ has c cc0_stg1_0 (yblk m c t0_0) ∗ R : sProp 𝕄) := by
  unfold start mid
  iintro ⟨⟨⟨%κ, #HR⟩, Hsig, Hl, %f, Hs⟩, HO, Hx, Hy, Hr⟩
  ihave Hs := (Entails.of_eq (has_slots c f)) $$ Hs
  icases Hs with ⟨Hs, Hrest⟩
  ihave Hsig := (sig_ready (F := F) c f) $$ [Hsig Hrest]
  · isplitl [Hsig] <;> iassumption
  iapply (body_first (part m) κ c (grid0.coords t0_0) (by decide) (by decide) (xblk m c t0_0) (yblk m c t0_0) f) $$ [HO Hsig Hs Hx Hy]
  · isplitr; · iexact HR
    isplitl [HO]; · iexact HO
    isplitl [Hsig]; · iexact Hsig
    isplitl [Hs]; · iexact Hs
    isplitl [Hx] <;> iassumption
  iintro ⟨HO, Hs, Hx, Hy⟩
  isplitl [Hl Hs]
  · isplitr; · iexists κ; iexact HR
    isplitl [Hl]; · iexact Hl
    iexact Hs
  isplitl [HO]; · iexact HO
  isplitl [Hx]; · iexact Hx
  isplitl [Hy] <;> iassumption

theorem last_step (c : Dev nD) (o : (cc0_stg2_0 : Ref sig .tc).ty.Contents (Elt F)) {h5 h6 h7 h8} :
    iprop(mid m c ∗ owing c (sendDebt c all) ∗ has c cc0_stg0_1 (xblk m c t0_1) ∗ has c cc0_stg1_1 (yblk m c t0_1) ∗ has c cc0_stg2_0 o)
      ⊢ wp frame (wpE (defs₀ (F := F)) 𝒱₀ (c : Thread nD τ) none) Set.univ
          (cc0_body (grid0.coords t0_1) (Memref.whole main_v11) (Memref.isWhole_whole _) (Memref.whole cc0_stg0_1) h5
            (Memref.whole cc0_stg1_1) h6 (Memref.whole cc0_stg2_0) h7 cM h8 cc0_scratch1 cc0_scratch2)
          fun _ => iprop(fin m c ∗ owing c 0 ∗ has c cc0_stg0_1 (xblk m c t0_1) ∗ has c cc0_stg1_1 (yblk m c t0_1)
            ∗ has c cc0_stg2_0 (result m c) : sProp 𝕄) := by
  unfold mid fin late
  iintro ⟨⟨⟨%κ, #HR⟩, ⟨Hb, Hst, Hpos⟩, Hs⟩, HO, Hx, Hy, Ho⟩
  iapply (body_last (part m) κ c (grid0.coords t0_1) (by decide) (by decide) (xblk m c t0_1) (yblk m c t0_1) (sumG m c) (sumB m c) rfl o) $$ [HO Hb Hst Hpos Hs Hx Hy Ho]
  · isplitr; · iexact HR
    isplitl [HO]; · iexact HO
    isplitl [Hb]; · iexact Hb
    isplitl [Hst]; · iexact Hst
    isplitl [Hpos]; · iexact Hpos
    isplitl [Hs]; · iexact Hs
    isplitl [Hx]; · iexact Hx
    isplitl [Hy] <;> iassumption
  iintro ⟨HO, Hb, Hz, Hs, Hx, Hy, Ho⟩
  isplitl [Hb Hz Hs]
  · isplitl [Hb]; · iexact Hb
    isplitl [Hz] <;> iassumption
  isplitl [HO]; · iexact HO
  isplitl [Hx]; · iexact Hx
  isplitl [Hy]; · iexact Hy
  iexact Ho

theorem idle_of (c : Dev nD) (i : grid0.Coords) : (cfg0 (adm (F := F) c 0)).idle 2 i = idle0 2 i := rfl
theorem idle_first (c : Dev nD) : (cfg0 (adm (F := F) c 0)).idle 0 ((cfg0 (adm (F := F) c 0)).grid.coords t0_0) = false
    ∧ (cfg0 (adm (F := F) c 0)).idle 1 ((cfg0 (adm (F := F) c 0)).grid.coords t0_0) = false
    ∧ (cfg0 (adm (F := F) c 0)).idle 2 ((cfg0 (adm (F := F) c 0)).grid.coords t0_0) = true :=
  ⟨rfl, rfl, (idle_of c _).trans (show idle0 2 (grid0.coords t0_0) = true by decide)⟩
theorem idle_last (c : Dev nD) : (cfg0 (adm (F := F) c 0)).idle 0 ((cfg0 (adm (F := F) c 0)).grid.coords t0_1) = false
    ∧ (cfg0 (adm (F := F) c 0)).idle 1 ((cfg0 (adm (F := F) c 0)).grid.coords t0_1) = false
    ∧ (cfg0 (adm (F := F) c 0)).idle 2 ((cfg0 (adm (F := F) c 0)).grid.coords t0_1) = false :=
  ⟨rfl, rfl, (idle_of c _).trans (show idle0 2 (grid0.coords t0_1) = false by decide)⟩
theorem flush_first (c : Dev nD) : ((cfg0 (adm (F := F) c 0)).win 2).flush t0_0 = false := rfl

theorem steps (c : Dev nD) : BodyObligation (dat m c) defs₀ 𝒱₀ () Set.univ := fun t => by
  obtain rfl | rfl := fin_N0 t
  · rw [bigSep_W0, bigSep_W0, owing_of, owing_of, slot_first]
    rw [(idle_first c).1, (idle_first c).2.1, (idle_first c).2.2, flush_first]
    dsimp only
    show iprop(start m c ∗ owing c (O₀ c)
        ∗ (∃ d, owns (c : Thread nD τ) (Memref.whole cc0_stg0_0) fullShare ((dat m c).before 0 t0_0 d))
        ∗ (∃ d, owns (c : Thread nD τ) (Memref.whole cc0_stg1_0) fullShare ((dat m c).before 1 t0_0 d))
        ∗ (∃ d, owns (c : Thread nD τ) (Memref.whole cc0_stg2_0) fullShare ((dat m c).before 2 t0_0 d)))
      ⊢ wp frame (wpE (defs₀ (F := F)) 𝒱₀ (c : Thread nD τ) none) Set.univ
          (cc0_body (grid0.coords t0_0) (Memref.whole main_v11) (Memref.isWhole_whole _) (Memref.whole cc0_stg0_0) (Memref.isWhole_whole _)
            (Memref.whole cc0_stg1_0) (Memref.isWhole_whole _) (Memref.whole cc0_stg2_0) (Memref.isWhole_whole _) cM (Memref.isWhole_whole _) cc0_scratch1 cc0_scratch2)
          fun _ => iprop(mid m c ∗ owing c (sendDebt c all)
            ∗ owns (c : Thread nD τ) (Memref.whole cc0_stg0_0) fullShare (xblk m c t0_0)
            ∗ owns (c : Thread nD τ) (Memref.whole cc0_stg1_0) fullShare (yblk m c t0_0)
            ∗ ∃ d, owns (c : Thread nD τ) (Memref.whole cc0_stg2_0) fullShare ((dat m c).before 2 t0_0 d))
    simp only [(before_first m c).1, (before_first m c).2.1, (before_first m c).2.2, owns_has]
    iintro ⟨Hs, HO, ⟨%d0, Hx⟩, ⟨%d1, Hy⟩, Ho⟩
    iapply (first_step m c _)
    isplitl [Hs]; · iexact Hs
    isplitl [HO]; · iexact HO
    isplitl [Hx]; · iexact Hx
    isplitl [Hy]; · iexact Hy
    iexact Ho
  · rw [bigSep_W0, bigSep_W0, owing_of, owing_of, slot_last]
    rw [(idle_last c).1, (idle_last c).2.1, (idle_last c).2.2]
    dsimp only
    show iprop(mid m c ∗ owing c (sendDebt c all)
        ∗ (∃ d, owns (c : Thread nD τ) (Memref.whole cc0_stg0_1) fullShare ((dat m c).before 0 t0_1 d))
        ∗ (∃ d, owns (c : Thread nD τ) (Memref.whole cc0_stg1_1) fullShare ((dat m c).before 1 t0_1 d))
        ∗ (∃ d, owns (c : Thread nD τ) (Memref.whole cc0_stg2_0) fullShare ((dat m c).before 2 t0_1 d)))
      ⊢ wp frame (wpE (defs₀ (F := F)) 𝒱₀ (c : Thread nD τ) none) Set.univ
          (cc0_body (grid0.coords t0_1) (Memref.whole main_v11) (Memref.isWhole_whole _) (Memref.whole cc0_stg0_1) (Memref.isWhole_whole _)
            (Memref.whole cc0_stg1_1) (Memref.isWhole_whole _) (Memref.whole cc0_stg2_0) (Memref.isWhole_whole _) cM (Memref.isWhole_whole _) cc0_scratch1 cc0_scratch2)
          fun _ => iprop(fin m c ∗ owing c 0
            ∗ owns (c : Thread nD τ) (Memref.whole cc0_stg0_1) fullShare (xblk m c t0_1)
            ∗ owns (c : Thread nD τ) (Memref.whole cc0_stg1_1) fullShare (yblk m c t0_1)
            ∗ owns (c : Thread nD τ) (Memref.whole cc0_stg2_0) fullShare (result m c))
    simp only [(before_last m c).1, (before_last m c).2, owns_has]
    iintro ⟨Hs, HO, ⟨%d0, Hx⟩, ⟨%d1, Hy⟩, ⟨%d2, Ho⟩⟩
    iapply (last_step m c ((dat m c).before 2 t0_1 d2))
    isplitl [Hs]; · iexact Hs
    isplitl [HO]; · iexact HO
    isplitl [Hx]; · iexact Hx
    isplitl [Hy]; · iexact Hy
    have h := owns_has (F := F) c cc0_stg2_0 ((dat m c).before 2 t0_1 d2)
    ihave Ho := (Entails.of_eq h) $$ Ho
    iexact Ho

end Cert.KernelIdeal.Reduce

end
-- ==== Proof.Region.lean ====
/-
The kernel's region of the program: what enters it, what leaves it.
-/
module

public import proofs.«01_k».proof.Proof.Steps

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A copy counter of device `c`: `false` the departure, `true` the landing counter of that number. -/
abbrev osem (p : Fin 7 × Bool) : SemLoc sig := .dma (if p.2 then recvS p.1.succ else sendS p.1.succ)

theorem own_eq (c : Dev nD) : (Pipeline.ownSems0 osem c : sProp 𝕄)
    = bigSepL all fun j => iprop(semVal (sendCell c j) 0 ∗ semVal (recvCell c j) 0) := by
  unfold Pipeline.ownSems0
  rw [bigSep_univ_prod, bigSepL_all]
  refine bigSep_congr fun j _ => ?_
  rw [bigSep_univ_eq_bigSepL [false, true] (by decide) (by decide), bigSepL_cons', bigSepL_singleton]
  rfl

/-- What a device is given for its link number `j`: the rights to open its two counters, the three duties it pays, the
    credit of the landing. -/
def dues (c : Dev nD) (j : Fin 7) : sProp 𝕄 :=
  iprop((openTok ER (sendCell c j) ∗ openTok ER (recvCell c j))
    ∗ (dutyTok ER (barCell (tgt j c)) 0 j.rev ∗ dutyTok ER (sendCell c j) 0 0 ∗ dutyTok ER (recvCell (tgt j c) j) 0 0)
    ∗ cred (tallyAt (recvCell c j) () N))

/-- The same with the counters open. -/
def opened (c : Dev nD) (j : Fin 7) : sProp 𝕄 :=
  iprop(dutyTok ER (barCell (tgt j c)) 0 j.rev ∗ sendTok (F := F) c j ∗ posRes (F := F) c j ∗ reached ER (recvCell c j) 0)

theorem open_link (P : Dev nD → CBuf F) (κ : GSem nD τ sig → ℕ) (c : Dev nD) (j : Fin 7) :
    iprop(records P κ ∗ dues (F := F) c j ∗ semVal (sendCell c j) 0 ∗ semVal (recvCell c j) 0)
      ⊢ (|={Set.univ}=> opened (F := F) c j : sProp 𝕄) := by
  unfold dues opened sendTok posRes
  iintro ⟨#HR, ⟨⟨Ho1, Ho2⟩, ⟨Ht1, Ht2, Ht3⟩, Hc⟩, Hv1, Hv2⟩
  imod (Rounds.cell_open ER (sched P) (κ := κ (sendCell c j)) (Es := Set.univ) (Set.mem_univ _)) $$ [Ho1 Hv1] with ⟨Ha1, Hr1⟩
  · isplitr; · iapply (inv_at P κ _ (Finset.mem_union_right _ (mem_send c j))); iexact HR
    isplitl [Ho1] <;> iassumption
  imod (Rounds.cell_open ER (sched P) (κ := κ (recvCell c j)) (Es := Set.univ) (Set.mem_univ _)) $$ [Ho2 Hv2] with ⟨Ha2, #Hr2⟩
  · isplitr; · iapply (inv_at P κ _ (Finset.mem_union_right _ (mem_recv c j))); iexact HR
    isplitl [Ho2] <;> iassumption
  imodintro
  isplitl [Ht1]; · iexact Ht1
  isplitl [Ht2 Ht3 Hr1]
  · isplitl [Ht2]; · iexact Ht2
    isplitl [Hr1] <;> iassumption
  isplitl [Ha1 Ha2 Hc]
  · isplitl [Ha1]; · iexact Ha1
    isplitl [Ha2] <;> iassumption
  iexact Hr2

theorem open_links (P : Dev nD → CBuf F) (κ : GSem nD τ sig → ℕ) (c : Dev nD) : ∀ l : List (Fin 7),
    iprop(records P κ ∗ bigSepL l fun j => iprop(dues (F := F) c j ∗ semVal (sendCell c j) 0 ∗ semVal (recvCell c j) 0))
      ⊢ (|={Set.univ}=> bigSepL l (opened (F := F) c) : sProp 𝕄)
  | [] => by
    iintro ⟨#HR, H⟩; imodintro; iexact H
  | j :: l => by
    rw [bigSepL_cons', bigSepL_cons']
    iintro ⟨#HR, Hj, Hl⟩
    imod (open_link P κ c j) $$ [Hj] with Hj
    · isplitr; · iexact HR
      iexact Hj
    imod (open_links P κ c l) $$ [Hl] with Hl
    · isplitr; · iexact HR
      iexact Hl
    imodintro
    isplitl [Hj] <;> iassumption

theorem opened_split (c : Dev nD) : (bigSepL all (opened (F := F) c) : sProp 𝕄)
    ⊢ iprop(bigSepL all (sigTok (F := F) c) ∗ bigSepL all (sendTok (F := F) c) ∗ bigSepL all (posRes (F := F) c)) := by
  have hr : bigSepL all (fun j => (reached ER (recvCell c j) 0 : sProp 𝕄)) = bigSepL all fun j => reached ER (recvCell c j.rev) 0 := by
    rw [bigSepL_all, bigSepL_all]; exact bigSep_univ_equiv Fin.revPerm fun j => (reached ER (recvCell c j) 0 : sProp 𝕄)
  have hs : (bigSepL all (sigTok (F := F) c) : sProp 𝕄) = iprop((bigSepL all fun j => dutyTok ER (barCell (tgt j c)) 0 j.rev)
      ∗ bigSepL all fun j => reached ER (recvCell c j.rev) 0) := by
    rw [← bigSepL_sep]; rfl
  rw [hs, ← hr]
  have h1 : (bigSepL all (opened (F := F) c) : sProp 𝕄) = iprop((bigSepL all fun j => dutyTok ER (barCell (tgt j c)) 0 j.rev)
      ∗ bigSepL all fun j => iprop(sendTok (F := F) c j ∗ posRes (F := F) c j ∗ reached ER (recvCell c j) 0)) := by
    rw [← bigSepL_sep]; rfl
  have h2 : bigSepL all (fun j => (iprop(sendTok (F := F) c j ∗ posRes (F := F) c j ∗ reached ER (recvCell c j) 0) : sProp 𝕄))
      = iprop(bigSepL all (sendTok (F := F) c) ∗ bigSepL all fun j => iprop(posRes (F := F) c j ∗ reached ER (recvCell c j) 0)) := by
    rw [← bigSepL_sep]
  have h3 : bigSepL all (fun j => (iprop(posRes (F := F) c j ∗ reached ER (recvCell c j) 0) : sProp 𝕄))
      = iprop(bigSepL all (posRes (F := F) c) ∗ bigSepL all fun j => reached ER (recvCell c j) 0) := by
    rw [← bigSepL_sep]
  rw [h1, h2, h3]
  iintro ⟨H1, H2, H3, H4⟩
  isplitl [H1 H4]
  · isplitl [H1] <;> iassumption
  isplitl [H2] <;> iassumption

/-- What a device holds from the launch to the kernel, beside its buffers and what it owes. -/
def dealt (c : Dev nD) : sProp 𝕄 :=
  iprop((∃ κ, records (part m) κ) ∗ (atPos ER (barCell c) 0 ∅ 0 ∗ cred (tallyAt (barCell c) () 7)) ∗ bigSepL all (dues (F := F) c))

/-- What enters the kernel. -/
def entering (c : Dev nD) : sProp 𝕄 :=
  iprop((∃ κ, records (part m) κ) ∗ bigSepL all (sigTok (F := F) c) ∗ late (F := F) c)

theorem enter (c : Dev nD) : iprop(dealt m c ∗ Pipeline.ownSems0 osem c) ⊢ (|={Set.univ}=> entering m c : sProp 𝕄) := by
  rw [own_eq]
  unfold dealt entering late
  iintro ⟨⟨⟨%κ, #HR⟩, Hb, Hd⟩, Hv⟩
  imod (open_links (part m) κ c all) $$ [Hd Hv] with H
  · isplitr; · iexact HR
    rw [bigSepL_sep (dues (F := F) c)]
    isplitl [Hd] <;> iassumption
  ihave H' := (opened_split (F := F) c) $$ H
  icases H' with ⟨H1, H2, H3⟩
  imodintro
  isplitr; · iexists κ; iexact HR
  isplitl [H1]; · iexact H1
  isplitl [Hb]; · iexact Hb
  isplitl [H2] <;> iassumption

theorem osem_facts : Pipeline.OwnSemFacts spec0 osem := by decide
theorem share_full (c : Dev nD) (w : Fin 3) : (pdats m 0 c).share w = fullShare := by unfold Dat.share; split <;> rfl

theorem low_sems : ∀ (w : Fin 3) (s : Fin (spec0 w).nbuf), ¬ IsRecv ((spec0 w).sem s) := by decide

theorem debt_cells (c : Dev nD) : ∀ (n : ℕ) (g : GSem nD τ sig) (u : Unit), 0 < debt c n g u →
    (∃ j, g = recvCell (tgt j c) j) ∨ ∃ j, g = barCell (tgt j c)
  | 0, _, _, h => sigDebt_pos h
  | 1, _, _, h => Or.inl (sendDebt_pos h)
  | _ + 2, _, _, h => absurd h (Nat.lt_irrefl 0)

theorem waits (c : Dev nD) : (levAts L lv : sProp 𝕄) ⊢ Pipeline.PerCore.cellsWaits (Pipeline.pinD (pcfgs (F := F)) adm) (pdats m) () 0 c :=
  Pipeline.PerCore.cellsWaits_intro _ (pdats m) () 0 c fun w s t => mayWait_low c _ (low_sems w s) _ fun g u h => debt_cells c t.val g u h

/-- The table the kernel's index maps read, in the buffer that holds it. -/
theorem table_held (c : Dev nD) : (fun k => V1 m c (pre0.ref k)) = (adm (F := F) c 0).1 := by
  funext k
  obtain rfl : k = 0 := Subsingleton.elim _ _
  exact V1_tab m c

/-- The device's argument no window reads. -/
abbrev arg2 (c : Dev nD) : sProp 𝕄 := ((c : Thread nD τ).loc main_arg2) ↦{fullShare} V1 m c main_arg2

theorem arr_entry (c : Dev nD) : ∀ w : Fin 3, (pdats m 0 c).A w = V1 m c (Pipeline.arrRef (pcfgs (F := F) 0).spec w)
  | 0 => rfl
  | 1 => rfl
  | 2 => rfl
  | ⟨_ + 3, h⟩ => absurd h (Nat.not_lt.2 (Nat.le_add_left _ _))

theorem entry (c : Dev nD) :
    iprop((StableHlo.held (c : Thread nD τ) (Pipeline.ucRefs τ sig) (V1 m c) ∗ dealt m c ∗ owing c (O₀ c)) ∗ Pipeline.ownSems0 osem c ∗ levAts L lv)
      ⊢ (|={Set.univ}=> iprop((pdats m 0 c).arrays ((pdats m 0 c).arrAt · 0) ∗ Pipeline.prefHeld (pcfgs (F := F) 0).pre c (fun _ => fullShare) (adm (F := F) c 0).1
        ∗ (pdats m 0 c).owesAt () 0 ∗ entering m c ∗ arg2 m c) : sProp 𝕄) := by
  have hO : owing c (O₀ c) ⊢ ((pdats m 0 c).owesAt () 0 : sProp 𝕄) := Entails.of_eq (owing_of m c 0).symm
  iintro ⟨⟨Hh, Hd, HO⟩, Hs, -⟩
  imod (enter m c) $$ [Hd Hs] with HX
  · isplitl [Hd] <;> iassumption
  imodintro
  ihave Hu := (Entails.of_eq (Pipeline.unscopedBufs_held (Ix := Unit) (Name := ℕ) (U := UU) (Lvl := ℕ) c (V1 m c)).symm) $$ Hh
  ihave Ha := (Pipeline.PerCore.arrays_of_unscopedBufs (pcfgs (F := F)) adm (pdats m) (p := 0) winFacts0 arr_whole0 c (share_full m c) (fun b => V1 m c b) (arr_entry m c)) $$ Hu
  icases Ha with ⟨Ha, Hr⟩
  ihave Hr := (Entails.of_eq (Pipeline.unscopedRest_split (Ix := Unit) (Name := ℕ) (U := UU) (Lvl := ℕ) preFacts0 c (fun b => V1 m c b))) $$ Hr
  icases Hr with ⟨Hp, Hr⟩
  ihave Hr := (Entails.of_eq (unscopedRestP0_eq (Ix := Unit) (Name := ℕ) (U := UU) (Lvl := ℕ) c (fun b => V1 m c b))) $$ Hr
  icases Hr with ⟨H2, -⟩
  isplitl [Ha]; · iexact Ha
  isplitl [Hp]
  · rw [← table_held m c]; iexact Hp
  isplitl [HO]
  · iapply hO $$ HO
  isplitl [HX]; · iexact HX
  iexact H2

theorem into (c : Dev nD) :
    iprop(entering m c ∗ Pipeline.prefHeld (pcfgs (F := F) 0).pre c (fun _ => fullShare) (adm (F := F) c 0).1 ∗ Pipeline.scopedRest spec0 c)
      ⊢ (start m c : sProp 𝕄) := by
  rw [scopedRest0_eq]
  unfold entering start has
  iintro ⟨⟨HR, Hs, Hl⟩, -, Hb⟩
  isplitl [HR]; · iexact HR
  isplitl [Hs]; · iexact Hs
  isplitl [Hl] <;> iassumption

theorem outof (c : Dev nD) : (fin m c : sProp 𝕄) ⊢ iprop(semVal (barCell c) 0 ∗ Pipeline.ownSems0 osem c ∗ Pipeline.scopedRest spec0 c) := by
  rw [scopedRest0_eq, own_eq]
  unfold fin has
  iintro ⟨Hb, Hs, Hf⟩
  isplitl [Hb]; · iexact Hb
  isplitl [Hs]; · iexact Hs
  iexists _; iexact Hf

theorem last_debt (c : Dev nD) : debt c (Fin.last grid0.N).val = 0 := by rw [Fin.val_last, N_0]; rfl
theorem last_owed (c : Dev nD) : ((dat m c).owesAt () (Fin.last grid0.N) : sProp 𝕄) ⊢ owing c 0 := by
  rw [owing_of, last_debt]
theorem last_inv (c : Dev nD) : (dat m c).Φ (Fin.last grid0.N) = fin m c := by
  show inv m c (Fin.last grid0.N).val = _
  rw [Fin.val_last, N_0]; rfl

/-- What a device holds at the end, beside owing nothing. -/
def leaving (c : Dev nD) : sProp 𝕄 :=
  iprop((pdats m 0 c).arrays ((pdats m 0 c).arrAt · (Pipeline.pinD (pcfgs (F := F)) adm c 0).N) ∗ arg2 m c ∗ semVal (barCell c) 0)

theorem exit (c : Dev nD) :
    iprop((pdats m 0 c).arrays ((pdats m 0 c).arrAt · (Pipeline.pinD (pcfgs (F := F)) adm c 0).N)
        ∗ (pdats m 0 c).owesAt () (Fin.last (Pipeline.pinD (pcfgs (F := F)) adm c 0).N) ∗ semVal (barCell c) 0 ∗ arg2 m c)
      ⊢ (|={Set.univ}=> iprop(leaving m c ∗ owing c 0) : sProp 𝕄) := by
  unfold leaving
  have hO : ((pdats m 0 c).owesAt () (Fin.last (Pipeline.pinD (pcfgs (F := F)) adm c 0).N) : sProp 𝕄) ⊢ owing c 0 :=
    last_owed m c
  iintro ⟨Ha, HO, Hb, H2⟩
  imodintro
  isplitr [HO]
  · isplitl [Ha]; · iexact Ha
    isplitl [H2] <;> iassumption
  iapply hO $$ HO

set_option backward.isDefEq.respectTransparency.types false in
/-- The kernel's region. -/
def region : Pipeline.PerCore.RegionSeg (pcfgs (F := F)) adm (pdats m) () defs₀ 𝒱₀ L lv 0 where
  win := winFacts0.to₀
  block_pos := block_pos0
  stage_whole := stage_whole0
  K := Fin 7 × Bool
  osem := osem
  ho := osem_facts
  hbody c := (steps m c).loose
  hwaits c := waits m c
  pre c := iprop(StableHlo.held (c : Thread nD τ) (Pipeline.ucRefs τ sig) (V1 m c) ∗ dealt m c ∗ owing c (O₀ c))
  post c := iprop(leaving m c ∗ owing c 0)
  X c := entering m c
  Y c := semVal (barCell c) 0
  Z c := arg2 m c
  hentry c := entry m c
  hin c := into m c
  hout c := (Entails.of_eq (last_inv m c)).trans (outof m c)
  hexit c := exit m c

end Cert.KernelIdeal.Reduce

end
-- ==== Proof.Deal.lean ====
/-
The launch: the counters, the duties and the credits dealt to the devices.
-/
module

public import proofs.«01_k».proof.Proof.Region

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the devices owe each counter -/

theorem send_ne_recv (j i : Fin 7) : sendS j.succ ≠ recvS i.succ := fun h => not_isRecv j (h ▸ isRecv i)
theorem recv_inj (j i : Fin 7) (h : recvS j.succ = recvS i.succ) : j = i := by
  have h1 := congrArg (fun q : DmaSem sig => num q.val) h
  simpa only [num_recv] using h1
theorem send_inj (j i : Fin 7) (h : sendS j.succ = sendS i.succ) : j = i := by
  have h1 := congrArg (fun q : DmaSem sig => num (q.val + 1)) h
  simpa only [num_send] using h1

theorem sendDebt_bar (d c : Dev nD) : ∀ js, sendDebt d js (barCell c) () = 0
  | [] => rfl
  | j :: js => by
    unfold sendDebt
    rw [Pi.add_apply, Finsupp.add_apply, sendDebt_bar d c js, tallyAt_apply, if_neg (fun h => by have h := congrArg Prod.snd h.1; cases h)]

theorem sigDebt_bar (d c : Dev nD) : ∀ js, sigDebt d js (barCell c) () = (js.map fun j => if tgt j d = c then 1 else 0).sum
  | [] => sendDebt_bar d c all
  | j :: js => by
    unfold sigDebt
    rw [Pi.add_apply, Finsupp.add_apply, sigDebt_bar d c js, tallyAt_apply, List.map_cons, List.sum_cons, Nat.add_comm]
    congr 1
    by_cases h : tgt j d = c
    · subst h; rw [if_pos ⟨rfl, rfl⟩, if_pos rfl]
    · rw [if_neg h, if_neg (fun h1 => h (congrArg (fun g : GSem nD τ sig => g.1.1) h1.1).symm)]

theorem sigDebt_recv (d c : Dev nD) (i : Fin 7) : ∀ js, sigDebt d js (recvCell c i) () = sendDebt d all (recvCell c i) ()
  | [] => rfl
  | j :: js => by
    unfold sigDebt
    rw [Pi.add_apply, Finsupp.add_apply, sigDebt_recv d c i js, tallyAt_apply, if_neg (fun h => by have h := congrArg Prod.snd h.1; cases h), Nat.add_zero]

theorem sendDebt_recv (d c : Dev nD) (i : Fin 7) : ∀ js, sendDebt d js (recvCell c i) () = (js.map fun j => if tgt j d = c ∧ j = i then 1 else 0).sum * N
  | [] => (Nat.zero_mul N).symm
  | j :: js => by
    unfold sendDebt
    rw [Pi.add_apply, Finsupp.add_apply, sendDebt_recv d c i js, tallyAt_apply, List.map_cons, List.sum_cons, Nat.add_mul, Nat.add_comm]
    congr 1
    by_cases h : tgt j d = c ∧ j = i
    · obtain ⟨rfl, rfl⟩ := h; rw [if_pos ⟨rfl, rfl⟩, if_pos ⟨rfl, rfl⟩, Nat.one_mul]
    · rw [if_neg h, Nat.zero_mul, if_neg (fun h1 => h ⟨(congrArg (fun g : GSem nD τ sig => g.1.1) h1.1).symm,
        (recv_inj i j (SemLoc.dma.inj (congrArg Prod.snd h1.1))).symm⟩)]

theorem count_bar : ∀ c : Dev nD, (∑ d : Dev nD, (all.map fun j => if tgt j d = c then 1 else 0).sum) = 7 := by decide +kernel
theorem count_recv : ∀ (c : Dev nD) (i : Fin 7), (∑ d : Dev nD, (all.map fun j => if tgt j d = c ∧ j = i then 1 else 0).sum) = 1 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => sigDebt_bar d c all, count_bar]
theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => (sigDebt_recv d c i all).trans (sendDebt_recv d c i all),
    ← Finset.sum_mul, count_recv, Nat.one_mul]

theorem credits (c : Dev nD) :
    (Pipeline.launchCred O₀ c : sProp 𝕄) ⊢ iprop(cred (tallyAt (barCell c) () 7) ∗ bigSepL all fun j => cred (tallyAt (recvCell c j) () N)) := by
  unfold Pipeline.launchCred
  rw [bigSep_univ_at _ (SemLoc.reg barS), launch_bar]
  refine sep_mono_right ?_
  rw [bigSepL_all, bigSep_congr (s := Finset.univ) fun j _ => congrArg cred (launch_recv c j).symm]
  rw [← bigSep_image_of_injOn (f := fun j : Fin 7 => (SemLoc.dma (recvS j.succ) : SemLoc sig)) (s := Finset.univ)
    (fun j _ i _ h => recv_inj j i (SemLoc.dma.inj h))
    (fun sm => (cred (tallyOn ((c : Thread nD τ), sm) (launchCredit (Pipeline.owing O₀) 0 ((c : Thread nD τ), sm))) : sProp 𝕄))]
  refine BI.bigSep_subset fun sm h => ?_
  obtain ⟨j, -, rfl⟩ := Finset.mem_image.mp h
  have hne : (SemLoc.dma (recvS j.succ) : SemLoc sig) ≠ .reg barS := nofun
  exact Finset.mem_erase.mpr ⟨hne, Finset.mem_univ _⟩

/-! ## The counters and the duties dealt -/

theorem bar_inj : Set.InjOn barCell ((Finset.univ : Finset (Dev nD)) : Set (Dev nD)) :=
  fun c _ c' _ h => congrArg (fun g : GSem nD τ sig => g.1.1) h
theorem sends_inj : Set.InjOn (fun p : Dev nD × Fin 7 => sendCell p.1 p.2) ((Finset.univ : Finset (Dev nD × Fin 7)) : Set (Dev nD × Fin 7)) :=
  fun p _ q _ h => Prod.ext (congrArg (fun g : GSem nD τ sig => g.1.1) h) (send_inj p.2 q.2 (SemLoc.dma.inj (congrArg Prod.snd h)))
theorem recvs_inj : Set.InjOn (fun p : Dev nD × Fin 7 => recvCell p.1 p.2) ((Finset.univ : Finset (Dev nD × Fin 7)) : Set (Dev nD × Fin 7)) :=
  fun p _ q _ h => Prod.ext (congrArg (fun g : GSem nD τ sig => g.1.1) h) (recv_inj p.2 q.2 (SemLoc.dma.inj (congrArg Prod.snd h)))
theorem links_apart : Disjoint (Finset.univ.image fun p : Dev nD × Fin 7 => sendCell p.1 p.2) (Finset.univ.image fun p : Dev nD × Fin 7 => recvCell p.1 p.2) := by
  rw [Finset.disjoint_left]
  intro g h₁ h₂
  obtain ⟨p, -, rfl⟩ := Finset.mem_image.mp h₁
  obtain ⟨q, -, h⟩ := Finset.mem_image.mp h₂
  exact send_ne_recv p.2 q.2 (SemLoc.dma.inj (congrArg Prod.snd h)).symm
theorem cells_apart : Disjoint barCells linkCells := by
  rw [Finset.disjoint_left]
  intro g h₁ h₂
  obtain ⟨c, -, rfl⟩ := Finset.mem_image.mp h₁
  rcases Finset.mem_union.mp h₂ with h | h
  · obtain ⟨q, -, h⟩ := Finset.mem_image.mp h
    have h := congrArg Prod.snd h; cases h
  · obtain ⟨q, -, h⟩ := Finset.mem_image.mp h
    have h := congrArg Prod.snd h; cases h

theorem over_bars (Φ : GSem nD τ sig → sProp 𝕄) : bigSep barCells Φ = bigSep Finset.univ fun c => Φ (barCell c) :=
  bigSep_image_of_injOn bar_inj Φ
theorem over_links (Φ : GSem nD τ sig → sProp 𝕄) :
    bigSep linkCells Φ = bigSep Finset.univ fun c => bigSepL all fun j => iprop(Φ (sendCell c j) ∗ Φ (recvCell c j)) := by
  unfold linkCells
  rw [BI.bigSep_union links_apart, bigSep_image_of_injOn sends_inj, bigSep_image_of_injOn recvs_inj]
  show iprop((bigSep Finset.univ fun p : Dev nD × Fin 7 => Φ (sendCell p.1 p.2)) ∗ bigSep Finset.univ fun p : Dev nD × Fin 7 => Φ (recvCell p.1 p.2)) = _
  rw [← bigSep_sep', bigSep_univ_prod]
  exact bigSep_congr fun c _ => by rw [bigSepL_all]

/-- The duties: the seven of a barrier counter, and the one of each copy counter. -/
def duty (p : (Dev nD × Fin 7) × Fin 3) : GSem nD τ sig × ℕ × Fin 7 :=
  match p.2 with
  | 0 => (barCell p.1.1, 0, p.1.2)
  | 1 => (sendCell p.1.1 p.1.2, 0, 0)
  | 2 => (recvCell p.1.1 p.1.2, 0, 0)
theorem duty_inj : Function.Injective duty := by
  rintro ⟨⟨c, j⟩, k⟩ ⟨⟨c', j'⟩, k'⟩ h
  have hc : c = c' := by
    have h1 := congrArg (fun t : GSem nD τ sig × ℕ × Fin 7 => t.1.1.1) h
    fin_cases k <;> fin_cases k' <;> exact h1
  subst hc
  have hs := congrArg (fun t : GSem nD τ sig × ℕ × Fin 7 => t.1.2) h
  have hd := congrArg (fun t : GSem nD τ sig × ℕ × Fin 7 => t.2.2) h
  fin_cases k <;> fin_cases k'
  · exact congrArg (fun i => ((c, i), (0 : Fin 3))) hd
  · cases hs
  · cases hs
  · cases hs
  · exact congrArg (fun i => ((c, i), (1 : Fin 3))) (send_inj j j' (SemLoc.dma.inj hs))
  · exact absurd (SemLoc.dma.inj hs) (send_ne_recv j j')
  · cases hs
  · exact absurd (SemLoc.dma.inj hs).symm (send_ne_recv j' j)
  · exact congrArg (fun i => ((c, i), (2 : Fin 3))) (recv_inj j j' (SemLoc.dma.inj hs))
def duties : Finset (GSem nD τ sig × ℕ × Fin 7) := Finset.univ.map ⟨duty, duty_inj⟩

theorem sep3 (Φ : Fin 3 → sProp 𝕄) : bigSep Finset.univ Φ = iprop(Φ 0 ∗ Φ 1 ∗ Φ 2) := by
  rw [bigSep_univ_eq_bigSepL [0, 1, 2] (by decide) (by decide), bigSepL_cons', bigSepL_cons', bigSepL_singleton]

/-- Each pair goes to the device it points at, with the number that points back. -/
def flip : Dev nD × Fin 7 ≃ Dev nD × Fin 7 where
  toFun p := (tgt p.2 p.1, p.2.rev)
  invFun p := (tgt p.2 p.1, p.2.rev)
  left_inv p := Prod.ext (src_tgt p.2 p.1) (Fin.rev_rev p.2)
  right_inv p := Prod.ext (src_tgt p.2 p.1) (Fin.rev_rev p.2)
/-- Each pair goes to the device it points at, keeping the number. -/
def fwd : Dev nD × Fin 7 ≃ Dev nD × Fin 7 where
  toFun p := (tgt p.2 p.1, p.2)
  invFun p := (src p.2 p.1, p.2)
  left_inv p := Prod.ext (src_tgt p.2 p.1) rfl
  right_inv p := Prod.ext (tgt_src p.2 p.1) rfl

theorem duties_dealt : bigSep duties (fun x => (dutyTok ER x.1 x.2.1 x.2.2 : sProp 𝕄))
    = bigSep Finset.univ fun c => bigSepL all fun j =>
        iprop(dutyTok ER (barCell (tgt j c)) 0 j.rev ∗ dutyTok ER (sendCell c j) 0 0 ∗ dutyTok ER (recvCell (tgt j c) j) 0 0) := by
  have h1 : bigSep duties (fun x => (dutyTok ER x.1 x.2.1 x.2.2 : sProp 𝕄))
      = bigSep Finset.univ fun p : Dev nD × Fin 7 => iprop(dutyTok ER (barCell p.1) 0 p.2 ∗ dutyTok ER (sendCell p.1 p.2) 0 0 ∗ dutyTok ER (recvCell p.1 p.2) 0 0) := by
    unfold duties
    rw [bigSep_map, bigSep_univ_prod]
    exact bigSep_congr fun p _ => by rw [sep3]; rfl
  rw [h1, bigSep_sep', bigSep_sep', bigSep_univ_equiv flip (fun p => (dutyTok ER (barCell p.1) 0 p.2 : sProp 𝕄)),
    bigSep_univ_equiv fwd (fun p => (dutyTok ER (recvCell p.1 p.2) 0 0 : sProp 𝕄)), ← bigSep_sep', ← bigSep_sep', bigSep_univ_prod]
  exact bigSep_congr fun c _ => by rw [bigSepL_all]; rfl

end Cert.KernelIdeal.Reduce

end
-- ==== Proof.Run.lean ====
/-
The run: from any memory, every device ends with its arguments as they were, the kernel's result in its result buffer
and every counter at zero.
-/
module

public import proofs.«01_k».proof.Proof.Deal

@[expose] public section

noncomputable section

namespace Cert.KernelIdeal.Reduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The memory at the end -/

theorem flush_only (c : Dev nD) (t : Fin grid0.N) (h : ((cfg0 (adm (F := F) c 0)).win 2).flush t = true) : t = t0_1 := by
  obtain rfl | rfl := fin_N0 t
  · rw [flush_first] at h; exact absurd h Bool.false_ne_true
  · rfl

theorem out_emb (c : Dev nD) (y : S2x2048.Idx) : (((cfg0 (adm (F := F) c 0)).win 2).blk t0_1).view.emb y = y := by
  funext a
  refine Fin.ext ?_
  exact Pipeline.Window.rect_emb_val_of_index_zero ((cfg0 (adm (F := F) c 0)).win 2) t0_1 a (by fin_cases a <;> rfl) y

theorem out_final (c : Dev nD) : (dat m c).arrAt 2 grid0.N = result m c := by
  funext i
  have h := (dat m c).arrAt_emb_eq_flushed 2 (fun t t' ht ht' hne => absurd ((flush_only c t ht).trans (flush_only c t' ht').symm) hne)
    t0_1 rfl i
  exact (congrArg ((dat m c).arrAt 2 grid0.N) (out_emb c i)).symm.trans h

theorem V1_arg (c : Dev nD) : V1 m c main_arg0 = m ((c : Thread nD τ).loc main_arg0) ∧ V1 m c main_arg1 = m ((c : Thread nD τ).loc main_arg1)
    ∧ V1 m c main_arg2 = m ((c : Thread nD τ).loc main_arg2) :=
  ⟨V1_of m c _ (by decide), V1_of m c _ (by decide), V1_of m c _ (by decide)⟩

/-! ## The run -/

variable (ρ : Dev nD → PrngReg)

/-- What a device's launch holdings are beside the protocol's. -/
def bundle (c : Dev nD) : sProp 𝕄 :=
  iprop(StableHlo.held (c : Thread nD τ) (Pipeline.ucRefs τ sig) (V0 m c) ∗ owing c (O₀ c)
    ∗ cred (tallyAt (barCell c) () 7) ∗ bigSepL all fun j => cred (tallyAt (recvCell c j) () N))

/-- The protocol's, but for the facts all the devices share. -/
def share (c : Dev nD) : sProp 𝕄 :=
  iprop(atPos ER (barCell c) 0 ∅ 0 ∗ (bigSepL all fun j => iprop(openTok ER (sendCell c j) ∗ openTok ER (recvCell c j)))
    ∗ bigSepL all fun j => iprop(dutyTok ER (barCell (tgt j c)) 0 j.rev ∗ dutyTok ER (sendCell c j) 0 0 ∗ dutyTok ER (recvCell (tgt j c) j) 0 0))

/-- What device `c` starts the program with. -/
abbrev first (c : Dev nD) : sProp 𝕄 :=
  iprop(StableHlo.held (c : Thread nD τ) (Pipeline.ucRefs τ sig) (V0 m c) ∗ dealt m c ∗ owing c (O₀ c))

theorem first_intro (κ : GSem nD τ sig → ℕ) (c : Dev nD) : iprop(records (part m) κ ∗ share (F := F) c ∗ bundle m c) ⊢ (first m c : sProp 𝕄) := by
  have hd : (bigSepL all (dues (F := F) c) : sProp 𝕄) = iprop((bigSepL all fun j => iprop(openTok ER (sendCell c j) ∗ openTok ER (recvCell c j)))
      ∗ (bigSepL all fun j => iprop(dutyTok ER (barCell (tgt j c)) 0 j.rev ∗ dutyTok ER (sendCell c j) 0 0 ∗ dutyTok ER (recvCell (tgt j c) j) 0 0))
      ∗ bigSepL all fun j => cred (tallyAt (recvCell c j) () N)) := by
    rw [← bigSepL_sep, ← bigSepL_sep]; rfl
  unfold share bundle first dealt
  rw [hd]
  iintro ⟨#HR, ⟨Ha, Ho, Ht⟩, Hh, HO, Hb, Hc⟩
  isplitl [Hh]; · iexact Hh
  isplitr [HO]
  · isplitr; · iexists κ; iexact HR
    isplitl [Ha Hb]
    · isplitl [Ha] <;> iassumption
    isplitl [Ho]; · iexact Ho
    isplitl [Ht] <;> iassumption
  iexact HO

theorem together {Φ Ψ : Dev nD → sProp 𝕄} : iprop(bigSep Finset.univ Φ ∗ bigSep Finset.univ Ψ) ⊢ (bigSep Finset.univ fun c => iprop(Φ c ∗ Ψ c) : sProp 𝕄) :=
  Entails.of_eq (bigSep_sep' _ _ _).symm
theorem asunder {Φ Ψ : Dev nD → sProp 𝕄} : (bigSep Finset.univ fun c => iprop(Φ c ∗ Ψ c) : sProp 𝕄) ⊢ iprop(bigSep Finset.univ Φ ∗ bigSep Finset.univ Ψ) :=
  Entails.of_eq (bigSep_sep' _ _ _)

/-- All the launch element on device 0. -/
def onDev (X : sProp 𝕄) (c : Dev nD) : sProp 𝕄 := if c = 0 then X else iprop(emp)
theorem over_onDev (X : sProp 𝕄) : bigSep Finset.univ (onDev X) = X := by
  rw [bigSep_univ_at _ 0, bigSep_congr (s := Finset.univ.erase 0) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells linkCells duties)))

theorem unscoped_one : ∀ sm : SemLoc sig, sm.isScoped .tc = false → sm = .reg barS := by decide
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G (F := F) c)

theorem given_split (c : Dev nD) : given m ρ c ⊢ (iprop(bundle m c ∗ semVal (barCell c) 0 ∗ G (F := F) c) : sProp 𝕄) := by
  unfold given
  rw [show unscopedBufs c (fun b => m ((c : Thread nD τ).loc b)) = StableHlo.held (c : Thread nD τ) (Pipeline.ucRefs τ sig) (V0 m c)
      from Pipeline.unscopedBufs_held c (V0 m c), unscoped_bar]
  unfold bundle owing
  iintro ⟨Hh, Hv, HO, Hcr, -, HG⟩
  ihave Hc := (credits (F := F) c) $$ Hcr
  isplitl [Hh HO Hc]
  · isplitl [Hh]; · iexact Hh
    isplitl [HO]; · iexists ∅; iexact HO
    iexact Hc
  isplitl [Hv] <;> iassumption

theorem deal :
    iprop((bigSep Finset.univ fun c : Dev nD => given m ρ c) ∗ levAts L lv) ⊢ (|={Set.univ}=> bigSep Finset.univ (first m) : sProp 𝕄) := by
  have hg : (bigSep Finset.univ fun c : Dev nD => given m ρ c) ⊢ (bigSep Finset.univ fun c : Dev nD => iprop(bundle m c ∗ semVal (barCell c) 0 ∗ G (F := F) c) : sProp 𝕄) :=
    bigSep_mono fun c _ => given_split m ρ c
  iintro ⟨H, #Hlev⟩
  ihave H := hg $$ H
  ihave H := asunder $$ H; icases H with ⟨HB, H⟩
  ihave H := asunder $$ H; icases H with ⟨Hv, HG⟩
  ihave Hu := (show bigSep Finset.univ (G (F := F)) ⊢ BI.own (ER (launchOf barCells linkCells duties)) from Entails.of_eq (over_onDev _)) $$ HG
  imod (Rounds.fund_launch ER (sched (part m)) cells_apart (fun g _ h => h) duties) $$ [Hv Hu] with ⟨%κ, -, #Hinv, #Hr, Hat, Hopen, Htok⟩
  · isplitl [Hv]
    · iapply (Entails.of_eq (over_bars (F := F) fun g => semVal g 0).symm) $$ Hv
    · iexact Hu
  imodintro
  iapply (bigSep_with_persistent (R := records (part m) κ) (Φ := fun c => iprop(share (F := F) c ∗ bundle m c)) fun c _ => first_intro m κ c)
  isplitr
  · unfold records
    isplitr; · iexact Hinv
    isplitr; · iexact Hr
    iexact Hlev
  iapply together
  isplitr [HB]
  · unfold share
    iapply together; isplitl [Hat]; · iapply (Entails.of_eq (over_bars (F := F) fun g => atPos ER g 0 ∅ 0)) $$ Hat
    iapply together; isplitl [Hopen]; · iapply (Entails.of_eq (over_links (F := F) fun g => openTok ER g)) $$ Hopen
    iapply (Entails.of_eq (duties_dealt (F := F))) $$ Htok
  · iexact HB

theorem cells_inj : Function.Injective (Pipeline.PerCore.cellOf (nD := nD) (τ := τ) (Pipeline.pinD (pcfgs (F := F)) adm)) :=
  Pipeline.PerCore.cellOf_injective _
    (fun _ p => by obtain rfl : p = 0 := Subsingleton.elim _ _; exact Pipeline.specSemsDistinct_of_nodup spec0 (by decide))
    fun _ p p' h => absurd (Subsingleton.elim p p') h

/-- The launch element: the staging copies' and the protocol's. -/
def u₀ : UU :=
  (initOf (Pipeline.PerCore.cells (Pipeline.pinD (pcfgs (F := F)) adm) cells_inj) (Pipeline.PerCore.launchToks (Pipeline.pinD (pcfgs (F := F)) adm) cells_inj),
    launchOf barCells linkCells duties)

/-- The program in two segments: the host operations, the kernel. -/
def parts (c : Dev nD) : List (Pipeline.PerCore.Seg (pcfgs (F := F)) adm (pdats m) () defs₀ 𝒱₀ L lv) :=
  [.host (seg0 m 𝒱₀ L lv (fun _ c => iprop(dealt m c ∗ owing c (O₀ c))) c), .region (region m)]

/-- What the memory of device `c` must say at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.mem ((c : Thread nD τ).loc main_v12) = result m c ∧ s.sem (barCell c) = 0

theorem read_end (c : Dev nD) (s' : Phys nD τ sig (Elt F)) : iprop(leaving m c ∗ SI s') ⊢ (|={Set.univ}=> iprop(⌜Ends m c s'.mem⌝ ∗ SI s') : sProp 𝕄) := by
  unfold leaving
  iintro ⟨⟨Ha, H2, Hb⟩, HSI⟩
  icombine HSI H2 gives %h2
  icombine HSI Hb gives %hb
  ihave H := (Pipeline.PerCore.arrays_read (pcfgs (F := F)) adm (pdats m) arr_whole0 c (share_full m c) _ s') $$ [Ha HSI]
  · isplitl [Ha] <;> iassumption
  icases H with ⟨%ha, HSI⟩
  imodintro
  isplitr
  · ipureintro
    exact ⟨⟨(ha 0).trans (((dat m c).arrAt_in 0 rfl _).trans (V1_arg m c).1), (ha 1).trans (((dat m c).arrAt_in 1 rfl _).trans (V1_arg m c).2.1),
      (Buf.eq_of_forall_mem_univ h2).trans (V1_arg m c).2.2⟩, (ha 2).trans (out_final m c), by simpa using hb⟩
  iexact HSI

set_option backward.isDefEq.respectTransparency.types false in
/-- Every run ends with the arguments kept, the result in place and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v12) = result m c) ∧ r.2.sem = fun _ => 0) :=
  Pipeline.PerCore.θ_run_regions_kit_sems (pcfgs (F := F)) adm (pdats m) () cells_inj EP defs₀ 𝒱₀ L lv m ρ main (parts m)
    (fun c Q => by
      rewrite [main_chain c, Pipeline.PerCore.Seg.run_eq_chain,
        show (parts m c).map Pipeline.PerCore.Seg.prog = [StableHlo.seq (hostOps0 c), Prog.lift (.customCall (Pipeline.entry 0) ())] from rfl]
      dsimp (config := { failIfUnchanged := false }) only
      exact .rfl)
    (fun c => by simp only [parts, Pipeline.PerCore.Seg.pipes_host, Pipeline.PerCore.Seg.pipes_region, Pipeline.PerCore.Seg.pipes_nil]; decide)
    O₀ L_of_ne G u₀
    (by
      unfold u₀ G
      iintro Hu
      ihave H := (ownU_pair _ _) $$ Hu
      icases H with ⟨HP, HX⟩
      imodintro
      isplitl [HP]; · iexact HP
      rw [over_onDev]; iexact HX)
    (first m) (leaving m)
    (fun c => ⟨.rfl, .rfl, .rfl⟩)
    (deal m ρ)
    (Ends m) (read_end m)
    (fun s h hs => ⟨fun c => ⟨(h c).1, (h c).2.1⟩, sem_eq_zero hs fun c sm hsm => by
        obtain rfl := unscoped_one sm hsm
        exact (h c).2.2⟩)

end Cert.KernelIdeal.Reduce

end
-- ==== Proof.Value.Block.lean ====
/-
What the kernel adds to its two rows of sums for one block, over the extended reals, entry by entry.
-/
module

public import proofs.«01_k».proof.Proof.Point
public import Idealize.ShloMosaic.Lib.Pointwise

@[expose] public section

set_option maxRecDepth 16384

noncomputable section

namespace Cert.KernelIdeal.Reduce

open Cert.KernelIdeal Cert.KernelIdeal.Gen
open Idealize.ShloMosaic

/-- What the kernel multiplies a row's sum with, and what it adds to the row's variance. -/
abbrev part2048 : EReal := Ideal.ofBits .bf16 0x3A00#16
abbrev eps : EReal := Ideal.ofBits .bf16 0x3728#16

/-- The mean of a row as the kernel takes it. -/
def kmean (f : Fin 2048 → EReal) : EReal := (∑ k, f k) * part2048
/-- The variance of a row, with `eps` added, as the kernel takes it. -/
def kvar (f : Fin 2048 → EReal) : EReal := (∑ k, f k * f k) * part2048 - kmean f * kmean f + eps
/-- Entry `j` of a row after the kernel's normalisation. -/
def khat (f : Fin 2048 → EReal) (j : Fin 2048) : EReal := f j * Ideal.rsqrt (kvar f) - kmean f * Ideal.rsqrt (kvar f)

/-- Row `r` of a block. -/
abbrev row (x : Blk Ideal) (r : Fin 256) : Fin 2048 → EReal := fun k => x (ix2 r k)

theorem mean_at (x : Blk Ideal) (r : Fin 256) : k0_pay7 x (ix2 r 0) = kmean (row x r) := by
  pointwise [k0_pay7, k0_pay5, kmean, row]

theorem var_at (x : Blk Ideal) (r : Fin 256) : k0_pay8 x (ix2 r 0) = kvar (row x r) := by
  have h := mean_at x r
  unfold k0_pay8
  pointwise [k0_pay5, kvar, row, h]

/-- The first row of sums grows by the column sums of `dy` times the normalised block. -/
theorem stepG_at (x dy : Blk Ideal) (g : Vec Ideal S1x1x2048 .f32) (j : Fin 2048) :
    stepG x dy g (ix3 0 0 j) = g (ix3 0 0 j) + ∑ r : Fin 256, dy (ix2 r j) * khat (row x r) j := by
  unfold stepG
  pointwise [k0_pay1, k0_pay5, k0_pay6, khat, mean_at, var_at]

/-- The second row of sums grows by the column sums of `dy`. -/
theorem stepB_at (dy : Blk Ideal) (b : Vec Ideal S1x1x2048 .f32) (j : Fin 2048) :
    stepB dy b (ix3 0 0 j) = b (ix3 0 0 j) + ∑ r : Fin 256, dy (ix2 r j) := by
  unfold stepB
  pointwise [k0_pay2, k0_pay6]

/-- The result is the sum over the slots. -/
theorem over_slots (f : Vec Ideal S8x2x2048 .f32) (a : Fin 2) (j : Fin 2048) :
    k0_pay3 f (ix2 a j) = ∑ k : Fin 8, f (ix3 k a j) := by
  pointwise [k0_pay3]

end Cert.KernelIdeal.Reduce

end
-- ==== Proof.Value.Whole.lean ====
/-
The kernel's result on any device, over the extended reals: sums over all rows of the whole `x` and `dy`, of which the
devices' arguments are blocks.
-/
module

public import proofs.«01_k».proof.Proof.Value.Block
public import proofs.«01_k».proof.Proof.Run
public import Idealize.ShloMosaic.Lib.Layout

@[expose] public section

set_option maxRecDepth 16384

noncomputable section

namespace Cert.KernelIdeal.Reduce

open Cert.KernelIdeal Cert.KernelIdeal.Gen
open Idealize.ShloMosaic Idealize.ShloMosaic.TcCoe

/-- The shape of the whole `x` and `dy`. -/
abbrev Whole : Shape := ⟨2, ![4096, 2048]⟩

/-- Row `r` of the block that device `c` takes at point `t`, among all rows. -/
def place (c : Fin 8) (t : Fin 2) (r : Fin 256) : Fin 4096 := ⟨512 * c.val + 256 * t.val + r.val, by omega⟩

/-- Every row is in the block of one device at one point. -/
theorem sum_place (h : Fin 4096 → EReal) : ∑ c : Fin 8, ∑ t : Fin 2, ∑ r : Fin 256, h (place c t r) = ∑ R : Fin 4096, h R := by
  have e1 : ∀ f : Fin 16 → EReal, ∑ c : Fin 8, ∑ t : Fin 2, f ⟨2 * c.val + t.val, by omega⟩ = ∑ b : Fin 16, f b := fun f => by
    rw [← Fintype.sum_prod_type' (f := fun (c : Fin 8) (t : Fin 2) => f ⟨2 * c.val + t.val, by omega⟩)]
    exact Fintype.sum_equiv (finProdFinEquiv (m := 8) (n := 2)) _ _ fun p => congrArg f (Fin.ext (Nat.add_comm _ _))
  have e2 : ∑ b : Fin 16, ∑ r : Fin 256, h ⟨256 * b.val + r.val, by omega⟩ = ∑ R : Fin 4096, h R := by
    rw [← Fintype.sum_prod_type' (f := fun (b : Fin 16) (r : Fin 256) => h ⟨256 * b.val + r.val, by omega⟩)]
    exact Fintype.sum_equiv (finProdFinEquiv (m := 16) (n := 256)) _ _ fun p => congrArg h (Fin.ext (Nat.add_comm _ _))
  rw [← e2, ← e1]
  refine Finset.sum_congr rfl fun c _ => Finset.sum_congr rfl fun t _ => Finset.sum_congr rfl fun r _ => congrArg h (Fin.ext ?_)
  show 512 * c.val + 256 * t.val + r.val = 256 * (2 * c.val + t.val) + r.val
  omega

/-- An amount of the landing buffer, as a number. -/
abbrev amount (f : CBuf Ideal) (k : Fin 8) (a : Fin 2) (j : Fin 2048) : EReal := f (ix3 k a j : S8x2x2048.Idx)

/-- The slots of a device hold the rows of every device once. -/
theorem sum_gathered (P : Dev nD → CBuf Ideal) (c : Dev nD) (a : Fin 2) (j : Fin 2048) :
    ∑ k : Fin 8, amount (gathered P c) k a j = ∑ d : Dev nD, amount (P d) 0 a j := by
  let who : Fin 8 → Dev nD := fun k => ⟨(c.val + (8 - k.val)) % 8, Nat.mod_lt _ (by decide)⟩
  have hw : Function.Bijective who := by
    rw [Fintype.bijective_iff_injective_and_card]
    refine ⟨fun k l h => ?_, rfl⟩
    have h' : (c.val + (8 - k.val)) % 8 = (c.val + (8 - l.val)) % 8 := congrArg Fin.val h
    have := k.isLt; have := l.isLt
    exact Fin.ext (by omega)
  have hk : ∀ k : Fin 8, amount (gathered P c) k a j = amount (P (who k)) 0 a j := by
    intro k
    have hc : c.val < 8 := c.isLt
    by_cases h0 : k.val = 0
    · have hd : who k = c := Fin.ext (by show (c.val + (8 - k.val)) % 8 = c.val; omega)
      have hk0 : k = 0 := Fin.ext h0
      rw [hd, hk0]; exact dif_pos rfl
    · refine (dif_neg h0).trans ?_
      have hd : ∀ h, src ⟨k.val - 1, h⟩ c = who k := fun h => Fin.ext (by
        show (c.val + (Fin.rev (n := 7) ⟨k.val - 1, h⟩).val + 1) % 8 = (c.val + (8 - k.val)) % 8
        rw [Fin.val_rev]
        show (c.val + (7 - (k.val - 1 + 1)) + 1) % 8 = (c.val + (8 - k.val)) % 8
        have := k.isLt
        congr 1; omega)
      refine (congrArg (fun d => (P d _ : EReal)) (hd _)).trans (congrArg (P (who k)) ?_)
      exact (ix3_eq_valueIdx (0 : Fin 8) a j).symm
  rw [Finset.sum_congr rfl fun k _ => hk k]
  exact hw.sum_comp fun d => amount (P d) 0 a j

variable (m : (ℓ : Loc nD τ sig) → Buf (Elt Ideal) ℓ)

theorem coord_val : ∀ t : Fin grid0.N, (grid0.coords t 0).val = t.val := by decide +kernel

/-- Where an amount of a block lies in the device's argument. -/
theorem block_x (c : Dev nD) (t : Fin grid0.N) (i : S256x2048.Idx) (a : Fin 2) :
    (((((cfg0 (adm (F := Ideal) c 0)).win 0).blk t).view.emb i : S2048x2048.Idx) a).val = bix c (grid0.coords t) a * S256x2048.size a + (i a).val :=
  Pipeline.Window.rect_emb_val ((cfg0 (adm (F := Ideal) c 0)).win 0) t i a
theorem block_y (c : Dev nD) (t : Fin grid0.N) (i : S256x2048.Idx) (a : Fin 2) :
    (((((cfg0 (adm (F := Ideal) c 0)).win 1).blk t).view.emb i : S2048x2048.Idx) a).val = bix c (grid0.coords t) a * S256x2048.size a + (i a).val :=
  Pipeline.Window.rect_emb_val ((cfg0 (adm (F := Ideal) c 0)).win 1) t i a

/-- The coordinates of device `c`'s block among those of the whole. -/
abbrev mine (c : Dev nD) := Layout.meshBlock (r := 2) [2, 2, 2] ![[0], []] c

theorem mesh_row : ∀ c : Dev nD, (mine c 0).val = c.val / 4
    ∧ (mine c 1).val = 0 := by decide +kernel

/-- An amount of a device's argument, as one of the whole. -/
theorem in_whole (c : Dev nD) (t : Fin grid0.N) (r : Fin 256) (k : Fin 2048) (X : Whole.Idx → EReal) (i : S2048x2048.Idx)
    (hi : ∀ a, (i a).val = bix c (grid0.coords t) a * S256x2048.size a + ((ix2 r k : S256x2048.Idx) a).val) :
    (Layout.blockN ⟨2, ![2048, 2048]⟩ Whole (Layout.meshBlock [2, 2, 2] ![[0], []] c) X : S2048x2048.Idx → EReal) i = X (ix2 (place c t r) k) := by
  refine congrArg X (funext fun a => Fin.ext ?_)
  refine (Layout.TilesN.idx_val _ _ _ a).trans ?_
  match a with
  | 0 =>
    have h := hi 0
    rw [bix_row, coord_val] at h
    have h' : (i 0).val = (2 * (c.val % 4) + t.val) * 256 + r.val := h
    have hm := (mesh_row c).1
    have e : (mine c 0).val * 2048 + (i 0).val = 512 * c.val + 256 * t.val + r.val := by omega
    exact e
  | 1 =>
    have h' : (i 1).val = 0 * 2048 + k.val := hi 1
    have hm := (mesh_row c).2
    have e : (mine c 1).val * 2048 + (i 1).val = k.val := by omega
    exact e

/-- Device `c`'s block of `x` at a point, as rows of the whole. -/
theorem xblk_at (c : Dev nD) (t : Fin grid0.N) (r : Fin 256) (k : Fin 2048) (X : Whole.Idx → EReal)
    (h : m ((c : Thread nD τ).loc main_arg0) = Layout.blockN ⟨2, ![2048, 2048]⟩ Whole (Layout.meshBlock [2, 2, 2] ![[0], []] c) X) :
    xblk m c t (ix2 r k) = X (ix2 (place c t r) k) :=
  (congrFun ((V1_arg m c).1.trans h) _).trans (in_whole c t r k X _ (block_x c t (ix2 r k)))

/-- The same of `dy`. -/
theorem yblk_at (c : Dev nD) (t : Fin grid0.N) (r : Fin 256) (k : Fin 2048) (Y : Whole.Idx → EReal)
    (h : m ((c : Thread nD τ).loc main_arg1) = Layout.blockN ⟨2, ![2048, 2048]⟩ Whole (Layout.meshBlock [2, 2, 2] ![[0], []] c) Y) :
    yblk m c t (ix2 r k) = Y (ix2 (place c t r) k) :=
  (congrFun ((V1_arg m c).2.1.trans h) _).trans (in_whole c t r k Y _ (block_y c t (ix2 r k)))

variable (X Y : Whole.Idx → EReal)
  (hX : ∀ c : Dev nD, m ((c : Thread nD τ).loc main_arg0) = Layout.blockN ⟨2, ![2048, 2048]⟩ Whole (Layout.meshBlock [2, 2, 2] ![[0], []] c) X)
  (hY : ∀ c : Dev nD, m ((c : Thread nD τ).loc main_arg1) = Layout.blockN ⟨2, ![2048, 2048]⟩ Whole (Layout.meshBlock [2, 2, 2] ![[0], []] c) Y)

/-- Row `R` of the whole `x`. -/
abbrev wrow (R : Fin 4096) : Fin 2048 → EReal := fun k => X (ix2 R k)

include hX hY in
/-- The rows of sums that device `c` sends. -/
theorem part_at (c : Dev nD) (j : Fin 2048) :
    amount (part m c) 0 0 j = ∑ t : Fin 2, ∑ r : Fin 256, Y (ix2 (place c t r) j) * khat (wrow X (place c t r)) j
      ∧ amount (part m c) 0 1 j = ∑ t : Fin 2, ∑ r : Fin 256, Y (ix2 (place c t r) j) := by
  have hz : zrow (F := Ideal) (ix3 0 0 j) = (0 : EReal) := Ideal.ofBits_zero_f32
  have hr : ∀ t r, row (xblk m c t) r = wrow X (place c t r) := fun t r => funext fun k => xblk_at m c t r k X (hX c)
  have hy : ∀ t r, yblk m c t (ix2 r j) = Y (ix2 (place c t r) j) := fun t r => yblk_at m c t r j Y (hY c)
  constructor
  · show (stepG (xblk m c t0_1) (yblk m c t0_1) (sumG m c)) (ValueIdx.ix3 0 0 j) = _
    rw [← ix3_eq_valueIdx, stepG_at]; unfold sumG
    rw [stepG_at, hz, zero_add, Fin.sum_univ_two]
    simp only [hr, hy]; rfl
  · show (stepB (yblk m c t0_1) (sumB m c)) (ValueIdx.ix3 0 0 j) = _
    rw [← ix3_eq_valueIdx, stepB_at]; unfold sumB
    rw [stepB_at, hz, zero_add, Fin.sum_univ_two]
    simp only [hy]; rfl

include hX hY in
/-- The kernel's result: its first row the sums over all rows of `dy` times the normalised `x`, its second those of `dy`. -/
theorem result_at (c : Dev nD) (j : Fin 2048) :
    (result m c : S2x2048.Idx → EReal) (ix2 0 j) = ∑ R : Fin 4096, Y (ix2 R j) * khat (wrow X R) j
      ∧ (result m c : S2x2048.Idx → EReal) (ix2 1 j) = ∑ R : Fin 4096, Y (ix2 R j) := by
  constructor
  · refine (over_slots _ 0 j).trans ((sum_gathered (part m) c 0 j).trans ?_)
    rw [← sum_place]
    exact Finset.sum_congr rfl fun d _ => (part_at m X Y hX hY d j).1
  · refine (over_slots _ 1 j).trans ((sum_gathered (part m) c 1 j).trans ?_)
    rw [← sum_place]
    exact Finset.sum_congr rfl fun d _ => (part_at m X Y hX hY d j).2

/-- The two rows of sums over all rows of the whole. -/
def total : S2x2048.Idx → EReal := fun i =>
  if (i 0).val = 0 then ∑ R : Fin 4096, Y (ix2 R (i 1)) * khat (wrow X R) (i 1) else ∑ R : Fin 4096, Y (ix2 R (i 1))

theorem eq_total (f : S2x2048.Idx → EReal) (h0 : ∀ j, f (ix2 0 j) = ∑ R : Fin 4096, Y (ix2 R j) * khat (wrow X R) j)
    (h1 : ∀ j, f (ix2 1 j) = ∑ R : Fin 4096, Y (ix2 R j)) : f = total X Y := by
  funext i
  obtain ⟨a, j, rfl⟩ : ∃ (a : Fin 2) (j : Fin 2048), i = ix2 a j := ⟨i 0, i 1, eq_ix2 i⟩
  match a with
  | 0 => exact (h0 j).trans (if_pos rfl).symm
  | 1 => exact (h1 j).trans (if_neg Nat.one_ne_zero).symm

include hX hY in
/-- The kernel's result is these rows, on every device. -/
theorem result_total (c : Dev nD) : (result m c : S2x2048.Idx → EReal) = total X Y :=
  eq_total X Y _ (fun j => (result_at m X Y hX hY c j).1) fun j => (result_at m X Y hX hY c j).2

end Cert.KernelIdeal.Reduce

end
-- ==== Proof.Value.Reference.lean ====
/-
The reference's result, over the extended reals, entry by entry.
-/
module

public import proofs.«01_k».proof.Proof.Gen.ReferenceIdeal.Run
public import Idealize.ShloMosaic.Lib.Pointwise

@[expose] public section

set_option maxRecDepth 16384

noncomputable section

namespace Cert.ReferenceIdeal.Sums

open Cert.ReferenceIdeal Cert.ReferenceIdeal.Gen
open Idealize.ShloMosaic Idealize.ShloMosaic.TcCoe Idealize.SL.Sem

/-- How many entries a row has, as the reference writes it, and the same less the zero degrees of freedom of its
    variance. -/
abbrev count : EReal := Ideal.ofBits .f32 0x45000000#32
abbrev degrees : EReal := count - (FloatOps.sitofp (F := Ideal) .f32 0#32 : EReal)

/-- The mean of a row. -/
def rmean (f : Fin 2048 → EReal) : EReal := Ideal.div (∑ k, f k) count
/-- The variance of a row, with the literal that the reference adds to it. -/
def rvar (f : Fin 2048 → EReal) : EReal :=
  (if 0 < degrees then Ideal.div (∑ k, (f k - rmean f) * (f k - rmean f)) degrees
    else Ideal.ofBits .f32 0x7FC00000#32) + Ideal.ofBits .bf16 0x3728#16
/-- Entry `j` of a row after the reference's normalisation. -/
def rhat (f : Fin 2048 → EReal) (j : Fin 2048) : EReal := (f j - rmean f) * Ideal.div 1 (Ideal.sqrt (rvar f))

variable (m : (ℓ : Loc nD τ sig) → Buf (Elt Ideal) ℓ) (ρ : Dev nD → PrngReg)

/-- The reference's arguments and its result, as arrays of numbers. -/
abbrev argX : S4096x2048.Idx → EReal := m (((0 : Dev nD) : Thread nD τ).loc main_arg0)
abbrev argY : S4096x2048.Idx → EReal := m (((0 : Dev nD) : Thread nD τ).loc main_arg1)
abbrev out (f : Buf (Elt Ideal) (((0 : Dev nD) : Thread nD τ).loc main_v26)) (a : Fin 2) (j : Fin 2048) : EReal := f (ix2 a j : S2x2048.Idx)

/-- The run ends with the first row of the result the sums over the rows of `dy` times the normalised `x`, the second
    those of `dy`, and the arguments unchanged. -/
theorem run_at : θ_run defs (onTc (τ := τ) (main (F := Ideal))) ⟨m, fun _ => 0, ρ⟩ fun r =>
    (∀ j : Fin 2048, out (r.2.mem (((0 : Dev nD) : Thread nD τ).loc main_v26)) 0 j
          = ∑ R : Fin 4096, argY m (ix2 R j) * rhat (fun k => argX m (ix2 R k)) j
      ∧ out (r.2.mem (((0 : Dev nD) : Thread nD τ).loc main_v26)) 1 j = ∑ R : Fin 4096, argY m (ix2 R j))
    ∧ r.2.mem (((0 : Dev nD) : Thread nD τ).loc main_arg0) = m (((0 : Dev nD) : Thread nD τ).loc main_arg0)
    ∧ r.2.mem (((0 : Dev nD) : Thread nD τ).loc main_arg1) = m (((0 : Dev nD) : Thread nD τ).loc main_arg1)
    ∧ r.2.mem (((0 : Dev nD) : Thread nD τ).loc main_arg2) = m (((0 : Dev nD) : Thread nD τ).loc main_arg2) := by
  refine (θ_run defs _ _).mono (fun r h => ?_) (Value.run m ρ)
  obtain ⟨hv, hargs⟩ := h 0
  refine ⟨fun j => ⟨(congrFun hv (ix2 0 j)).trans ?_, (congrFun hv (ix2 1 j)).trans ?_⟩, hargs⟩
  · clear hv hargs h
    pointwise
    rfl
  · clear hv hargs h
    pointwise

end Cert.ReferenceIdeal.Sums

end
-- ==== Proof.Value.Row.lean ====
/-
For a row of finite numbers the kernel's normalisation and the reference's agree: the kernel takes the variance as the
mean of the squares less the square of the mean, and normalises `x * rstd - mean * rstd`; the reference takes the mean
of the squared differences, and normalises `(x - mean) * rstd`.
-/
module

public import proofs.«01_k».proof.Proof.Value.Block
public import proofs.«01_k».proof.Proof.Value.Reference

@[expose] public section

noncomputable section

namespace Cert.Rows

open Idealize.ShloMosaic Cert.KernelIdeal.Reduce Cert.ReferenceIdeal.Sums

/-! ## The literals -/

theorem part_eq : part2048 = ((1 / 2048 : ℝ) : EReal) := by
  simp [part2048, Ideal.ofBits, Ideal.ieee, -EReal.coe_mul]; norm_num
theorem count_eq : count = ((2048 : ℝ) : EReal) := by
  show Ideal.ofBits .f32 0x45000000#32 = _
  simp [Ideal.ofBits, Ideal.ieee, -EReal.coe_mul]; norm_num
theorem degrees_eq : degrees = ((2048 : ℝ) : EReal) := by
  have h : (FloatOps.sitofp (F := Ideal) .f32 0#32 : EReal) = 0 := by
    show (((0#32 : BitVec 32).toInt : ℝ) : EReal) = 0
    simp
  rw [degrees, h, sub_zero, count_eq]
theorem eps_eq : ∃ e : ℝ, 0 < e ∧ eps = (e : EReal) := by
  refine ⟨168 / 2 ^ 24, by norm_num, ?_⟩
  simp [eps, Ideal.ofBits, Ideal.ieee, -EReal.coe_mul]; norm_num

/-! ## The row -/

theorem sum_coe {n : Nat} (g : Fin n → ℝ) : ∑ k, ((g k : ℝ) : EReal) = ((∑ k, g k : ℝ) : EReal) := by
  induction n with
  | zero => simp
  | succ n ih => rw [Fin.sum_univ_succ, Fin.sum_univ_succ, ih, EReal.coe_add]

theorem div_count (a : ℝ) : Ideal.div (a : EReal) ((2048 : ℝ) : EReal) = ((a / 2048 : ℝ) : EReal) := by
  have h : ((2048 : ℝ) : EReal) ≠ 0 := by exact_mod_cast (by norm_num : (2048 : ℝ) ≠ 0)
  rw [Ideal.div, if_neg h, ← EReal.coe_inv, ← EReal.coe_mul, div_eq_mul_inv]

/-- The mean of squared differences is the mean of the squares less the square of the mean. -/
theorem variance (g : Fin 2048 → ℝ) : (∑ k, (g k - (∑ l, g l) / 2048) * (g k - (∑ l, g l) / 2048)) / 2048
    = (∑ k, g k * g k) * (1 / 2048) - (∑ l, g l) * (1 / 2048) * ((∑ l, g l) * (1 / 2048)) := by
  generalize hs : ∑ l, g l = s
  have h : ∀ k, (g k - s / 2048) * (g k - s / 2048) = g k * g k - g k * (2 * (s / 2048)) + s / 2048 * (s / 2048) := fun k => by ring
  simp only [h]
  rw [Finset.sum_add_distrib, Finset.sum_sub_distrib, ← Finset.sum_mul, hs, Finset.sum_const, Finset.card_univ, Fintype.card_fin, nsmul_eq_mul]
  push_cast
  ring

/-- The two normalisations agree on a row of finite numbers. -/
theorem hat_eq (f : Fin 2048 → EReal) (hf : ∀ k, f k ≠ ⊥ ∧ f k ≠ ⊤) (j : Fin 2048) : khat f j = rhat f j := by
  obtain ⟨g, rfl⟩ : ∃ g : Fin 2048 → ℝ, f = fun k => (g k : EReal) :=
    ⟨fun k => (f k).toReal, funext fun k => (EReal.coe_toReal (hf k).2 (hf k).1).symm⟩
  obtain ⟨e, he, hee⟩ := eps_eq
  have km : kmean (fun k => (g k : EReal)) = (((∑ l, g l) * (1 / 2048) : ℝ) : EReal) := by
    rw [kmean, part_eq, sum_coe, EReal.coe_mul]
  have rm : rmean (fun k => (g k : EReal)) = (((∑ l, g l) / 2048 : ℝ) : EReal) := by
    rw [rmean, count_eq, sum_coe, div_count]
  have rv : rvar (fun k => (g k : EReal))
      = (((∑ k, (g k - (∑ l, g l) / 2048) * (g k - (∑ l, g l) / 2048)) / 2048 + e : ℝ) : EReal) := by
    have hd : (0 : EReal) < ((2048 : ℝ) : EReal) := by exact_mod_cast (by norm_num : (0 : ℝ) < 2048)
    have hee' : Ideal.ofBits .bf16 0x3728#16 = (e : EReal) := hee
    rw [rvar, rm, degrees_eq, if_pos hd, hee']
    simp only [← EReal.coe_sub, ← EReal.coe_mul]
    rw [sum_coe, div_count, EReal.coe_add]
  have kv : kvar (fun k => (g k : EReal))
      = (((∑ k, (g k - (∑ l, g l) / 2048) * (g k - (∑ l, g l) / 2048)) / 2048 + e : ℝ) : EReal) := by
    rw [variance, kvar, km, part_eq, hee]
    simp only [← EReal.coe_mul]
    rw [sum_coe, ← EReal.coe_mul, ← EReal.coe_sub, ← EReal.coe_add]
  have hv : 0 < (∑ k, (g k - (∑ l, g l) / 2048) * (g k - (∑ l, g l) / 2048)) / 2048 + e :=
    add_pos_of_nonneg_of_pos (div_nonneg (Finset.sum_nonneg fun k _ => mul_self_nonneg _) (by norm_num)) he
  rw [khat, rhat, km, rm, kv, rv]
  generalize (∑ k, (g k - (∑ l, g l) / 2048) * (g k - (∑ l, g l) / 2048)) / 2048 + e = v at hv
  have hr : Ideal.rsqrt (v : EReal) = (((Real.sqrt v)⁻¹ : ℝ) : EReal) := by
    show (if v < 0 then (⊥ : EReal) else if v = 0 then ⊤ else (((Real.sqrt v)⁻¹ : ℝ) : EReal)) = _
    rw [if_neg (not_lt.2 hv.le), if_neg hv.ne']
  have hq : Ideal.sqrt (v : EReal) = ((Real.sqrt v : ℝ) : EReal) := by
    show (if v < 0 then (⊥ : EReal) else ((Real.sqrt v : ℝ) : EReal)) = _
    rw [if_neg (not_lt.2 hv.le)]
  have h0 : ((Real.sqrt v : ℝ) : EReal) ≠ 0 := by exact_mod_cast (Real.sqrt_pos.2 hv).ne'
  have hd : Ideal.div 1 ((Real.sqrt v : ℝ) : EReal) = (((Real.sqrt v)⁻¹ : ℝ) : EReal) := by
    rw [Ideal.div, if_neg h0, one_mul, ← EReal.coe_inv]
  rw [hr, hq, hd]
  generalize (Real.sqrt v)⁻¹ = q
  generalize ∑ l, g l = s
  rw [← EReal.coe_mul, ← EReal.coe_mul, ← EReal.coe_sub, ← EReal.coe_sub, ← EReal.coe_mul]
  exact congrArg Real.toEReal (by ring)

end Cert.Rows

end
-- ==== Proof.Value.Finite.lean ====
/-
What the precondition says: every entry of every device's block of `x`, hence of the whole `x`, is a finite number.
-/
module

public import proofs.«01_k».proof.Pre_finite_x_KernelIdeal
public import proofs.«01_k».proof.Pre_finite_x_ReferenceIdeal
public import proofs.«01_k».proof.Proof.Value.Whole
public import Idealize.ShloMosaic.Lib.ReduceAll

@[expose] public section

set_option maxRecDepth 16384

noncomputable section

namespace Cert.Rows

open Idealize.ShloMosaic Idealize.ShloMosaic.TcCoe Cert.KernelIdeal.Reduce

instance factsKernel : Cert.Pre_finite_x_KernelIdeal.Facts where
  bcast_S_S2048x2048 := by decide
  reducesTo_S2048x2048_S_d0_1 := by decide
  h_S_ := by decide

instance factsReference : Cert.Pre_finite_x_ReferenceIdeal.Facts where
  bcast_S_S4096x2048 := by decide
  reducesTo_S4096x2048_S_d0_1 := by decide
  h_S_ := by decide

/-- Where the precondition's word is one, every entry of `x` is finite. -/
theorem finite_of (x y : FVec Ideal Cert.Pre_finite_x_KernelIdeal.S2048x2048 .bf16) (g : FVec Ideal Cert.Pre_finite_x_KernelIdeal.S2048 .bf16)
    (h : Cert.Pre_finite_x_KernelIdeal.fn x y g = fun _ => 1#1) (i : Cert.Pre_finite_x_KernelIdeal.S2048x2048.Idx) :
    (x i : EReal) ≠ ⊥ ∧ (x i : EReal) ≠ ⊤ := by
  have hs : Subsingleton Cert.Pre_finite_x_KernelIdeal.S_.Idx := ⟨fun a b => funext fun k => k.elim0⟩
  have h1 := Host.reduce_andi_all _ _ _ _ _ (congrFun h ix0) i
  have ht : Ideal.ofBits .bf16 0x7F80#16 = ⊤ := by simp [Ideal.ofBits, Ideal.ieee]
  have h2 : max (x i : EReal) (-(x i : EReal)) < ⊤ := by
    have h3 : BitVec.ofBool (decide (max (x i : EReal) (-(x i : EReal)) < Ideal.ofBits .bf16 0x7F80#16)) = 1#1 := by
      rw [← h1]; pointwise; rfl
    rw [ht] at h3
    by_contra hn
    rw [decide_eq_false hn] at h3
    exact absurd h3 (by decide)
  constructor
  · intro hb; rw [hb] at h2; simp at h2
  · intro hb; rw [hb] at h2; simp at h2

/-- Device `c`'s block of `x`, as an array of numbers. -/
abbrev block (m : (ℓ : Loc Cert.KernelIdeal.nD Cert.KernelIdeal.τ Cert.KernelIdeal.sig) → Buf (Elt Ideal) ℓ) (c : Dev Cert.KernelIdeal.nD) :
    Cert.KernelIdeal.S2048x2048.Idx → EReal :=
  m ((c : Thread Cert.KernelIdeal.nD Cert.KernelIdeal.τ).loc Cert.KernelIdeal.main_arg0)

/-- Every row of the whole is a row of some device's block. -/
theorem finite_rows (m : (ℓ : Loc Cert.KernelIdeal.nD Cert.KernelIdeal.τ Cert.KernelIdeal.sig) → Buf (Elt Ideal) ℓ) (X : Whole.Idx → EReal)
    (hX : ∀ c : Dev Cert.KernelIdeal.nD, m ((c : Thread Cert.KernelIdeal.nD Cert.KernelIdeal.τ).loc Cert.KernelIdeal.main_arg0)
      = Layout.blockN ⟨2, ![2048, 2048]⟩ Whole (Layout.meshBlock [2, 2, 2] ![[0], []] c) X)
    (hf : ∀ (c : Dev Cert.KernelIdeal.nD) (i : Cert.KernelIdeal.S2048x2048.Idx),
      block m c i ≠ ⊥ ∧ block m c i ≠ ⊤)
    (R : Fin 4096) (k : Fin 2048) : wrow X R k ≠ ⊥ ∧ wrow X R k ≠ ⊤ := by
  have hc : R.val / 2048 < 2 := by omega
  let c : Dev Cert.KernelIdeal.nD := ⟨4 * (R.val / 2048), by show _ < 8; omega⟩
  let i : Cert.KernelIdeal.S2048x2048.Idx := ix2 ⟨R.val % 2048, Nat.mod_lt _ (by decide)⟩ k
  have h := hf c i
  have e : block m c i = X (ix2 R k) := by
    refine (congrFun (hX c) i).trans ?_
    refine congrArg X (funext fun a => Fin.ext ?_)
    refine (Layout.TilesN.idx_val _ _ _ a).trans ?_
    match a with
    | 0 =>
      have hm := (mesh_row c).1
      have hcv : c.val = 4 * (R.val / 2048) := rfl
      have e : (mine c 0).val * 2048 + R.val % 2048 = R.val := by omega
      exact e
    | 1 =>
      have hm := (mesh_row c).2
      have e : (mine c 1).val * 2048 + k.val = k.val := by omega
      exact e
  rw [e] at h
  exact h

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Run
public import proofs.«01_k».proof.Proof.Kernel.Run
public import proofs.«01_k».proof.Proof.Value.Whole
public import proofs.«01_k».proof.Proof.Value.Row
public import proofs.«01_k».proof.Proof.Value.Finite
public import Idealize.ShloMosaic.Adequacy
public import Idealize.ShloMosaic.Init

@[expose] public section

noncomputable section

namespace Cert.Proof

open Idealize.ShloMosaic Idealize.SL.Sem

/-- The kernel's frame: what its run leaves, with the value of the result dropped. -/
theorem frame_kernel : Cert.quiescent_Kernel (hKernel := Cert.Kernel.Gen.facts) := fun m ρ _ =>
  (θ_run Cert.Kernel.defs _ _).mono (fun _ h => ⟨fun c => (h.1 c).1, h.2⟩) (Cert.Kernel.Reduce.run_main m ρ)

/-- The same of the kernel's idealization. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.KernelIdeal.Reduce.run_main m ρ)

/-- The reference's frame: no operation of it writes an argument, and it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- Every device of the kernel ends with what the reference ends with, where `x` is finite: each row of `x` is
    normalised alike (`hat_eq`), and the devices' partial sums are the sums over all rows (`result_at`). -/
theorem value : Cert.algebraic_KernelIdeal_ReferenceIdeal_pre_finite_x_KernelIdeal (hKernelIdeal := Cert.KernelIdeal.Gen.facts)
    (hReferenceIdeal := Cert.ReferenceIdeal.Gen.facts) (hPre_finite_x_KernelIdeal := Cert.Rows.factsKernel) := by
  intro m g m' g' hpre hagree
  have hfin := Cert.Rows.finite_rows m (Cert.ReferenceIdeal.Sums.argX m') (fun c => (hagree c).1)
    (fun c => Cert.Rows.finite_of _ _ _ (hpre c))
  have hkernel : ∀ c : Dev Cert.KernelIdeal.nD, Cert.KernelIdeal.Reduce.result m c
      = Cert.KernelIdeal.Reduce.total (Cert.ReferenceIdeal.Sums.argX m') (Cert.ReferenceIdeal.Sums.argY m') := fun c =>
    Cert.KernelIdeal.Reduce.result_total m _ _ (fun d => (hagree d).1) (fun d => (hagree d).2.1) c
  have hhat : ∀ (R : Fin 4096) (j : Fin 2048), Cert.ReferenceIdeal.Sums.rhat (fun k => Cert.ReferenceIdeal.Sums.argX m' (ix2 R k)) j
      = Cert.KernelIdeal.Reduce.khat (Cert.KernelIdeal.Reduce.wrow (Cert.ReferenceIdeal.Sums.argX m') R) j := fun R j =>
    (Cert.Rows.hat_eq _ (hfin R) j).symm
  refine ⟨Cert.KernelIdeal.Reduce.total (Cert.ReferenceIdeal.Sums.argX m') (Cert.ReferenceIdeal.Sums.argY m'), ?_, ?_⟩
  · exact (θ_run Cert.KernelIdeal.defs _ _).mono (fun r h c => ⟨(h.1 c).2.trans (hkernel c), (h.1 c).1⟩)
      (Cert.KernelIdeal.Reduce.run_main m g)
  · refine (θ_run Cert.ReferenceIdeal.defs _ _).mono (fun r h => ⟨?_, h.2⟩) (Cert.ReferenceIdeal.Sums.run_at m' g')
    refine Cert.KernelIdeal.Reduce.eq_total _ _ _ (fun j => (h.1 j).1.trans ?_) (fun j => (h.1 j).2)
    exact Finset.sum_congr rfl fun R _ => congrArg _ (hhat R j)

theorem claim : Cert.Claim :=
  ⟨Cert.Kernel.Gen.facts, Cert.KernelIdeal.Gen.facts, Cert.ReferenceIdeal.Gen.facts, Cert.Rows.factsKernel, Cert.Rows.factsReference,
    frame_kernel, frame_ideal, fun m ρ _ => frame_ideal m ρ trivial, frame_reference, fun m ρ _ => frame_reference m ρ trivial,
    trivial, value⟩

end Cert.Proof

end
